-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x128x3584 : Shape := ⟨3, ![2, 128, 3584]⟩
abbrev S3584x18944 : Shape := ⟨2, ![3584, 18944]⟩
abbrev S18944 : Shape := ⟨1, ![18944]⟩
abbrev S3584x32 : Shape := ⟨2, ![3584, 32]⟩
abbrev S32x18944 : Shape := ⟨2, ![32, 18944]⟩
abbrev S_ : Shape := ⟨0, ![]⟩
abbrev S2x128 : Shape := ⟨2, ![2, 128]⟩

class Facts : Prop where
  natLt_8_32 : 8 < 32
  bcast_S_S3584x18944 : S_.BroadcastsInDim S3584x18944 (![] : Fin 0 → Fin S3584x18944.rank)
  reducesTo_S3584x18944_S_d0_1 : S3584x18944.ReducesTo [0, 1] S_
  h_S_ : 0 < S_.numel
  bcast_S_S18944 : S_.BroadcastsInDim S18944 (![] : Fin 0 → Fin S18944.rank)
  reducesTo_S18944_S_d0 : S18944.ReducesTo [0] S_
  bitsLt_bf16_f32 : FTy.bits .bf16 < FTy.bits .f32
  bcast_S_S3584x32 : S_.BroadcastsInDim S3584x32 (![] : Fin 0 → Fin S3584x32.rank)
  reducesTo_S3584x32_S_d0_1 : S3584x32.ReducesTo [0, 1] S_
  bcast_S_S32x18944 : S_.BroadcastsInDim S32x18944 (![] : Fin 0 → Fin S32x18944.rank)
  reducesTo_S32x18944_S_d0_1 : S32x18944.ReducesTo [0, 1] S_
  reducesTo_S2x128x3584_S2x128_d2 : S2x128x3584.ReducesTo [2] S2x128
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_v24 : IVec S_ 1) (main_v29 : FVec F S2x128 .f32) (main_v31 : IVec S2x128 1) (main_v33 : IVec S2x128 1) : IVec S_ 1 :=
  let main_cst_12 : FVec F S_ .f32 := constant S_ .f32 0x7E800000#32
  let main_v34 : FVec F S2x128 .f32 := broadcastInDim S2x128 ![] bcast_S_S2x128 main_cst_12
  let main_v35 : IVec S2x128 1 := cmpf .olt main_v29 main_v34
  let main_v36 : IVec S2x128 1 := andi main_v33 main_v35
  let main_v37 : IVec S2x128 1 := ori main_v31 main_v36
  let main_c_13 : IVec S_ 1 := constantI S_ 1 1#1
  let main_v38 : IVec S_ 1 := (fun x v => Host.reduce IntOp.andi x v reducesTo_S2x128_S_d0_1 h_S_) main_v37 main_c_13
  let main_v39 : IVec S_ 1 := andi main_v24 main_v38
  main_v39

def fn_part1 {F : FTy → Type} [FloatOps F] (main_arg0 : FVec F S2x128x3584 .bf16) (main_arg4 : FVec F S32x18944 .bf16) (main_v12 : IVec S_ 1) (main_v16 : IVec S3584x32 1) : IVec S_ 1 :=
  let main_c_5 : IVec S_ 1 := constantI S_ 1 1#1
  let main_v17 : IVec S_ 1 := (fun x v => Host.reduce IntOp.andi x v reducesTo_S3584x32_S_d0_1 h_S_) main_v16 main_c_5
  let main_v18 : IVec S_ 1 := andi main_v12 main_v17
  let main_v19 : FVec F S32x18944 .f32 := (extf .f32 · bitsLt_bf16_f32) main_arg4
  let main_v20 : FVec F S32x18944 .f32 := Host.absf main_v19
  let main_cst_6 : FVec F S_ .f32 := constant S_ .f32 0x7F800000#32
  let main_v21 : FVec F S32x18944 .f32 := broadcastInDim S32x18944 ![] bcast_S_S32x18944 main_cst_6
  let main_v22 : IVec S32x18944 1 := cmpf .olt main_v20 main_v21
  let main_c_7 : IVec S_ 1 := constantI S_ 1 1#1
  let main_v23 : IVec S_ 1 := (fun x v => Host.reduce IntOp.andi x v reducesTo_S32x18944_S_d0_1 h_S_) main_v22 main_c_7
  let main_v24 : IVec S_ 1 := andi main_v18 main_v23
  let main_v25 : FVec F S2x128x3584 .f32 := (extf .f32 · bitsLt_bf16_f32) main_arg0
  let main_v26 : FVec F S2x128x3584 .f32 := Host.absf main_v25
  let main_cst_8 : FVec F S_ .f32 := constant S_ .f32 0xFF800000#32
  let main_v27 : FVec F S2x128 .f32 := (fun x v => Host.reduce FloatOps.maximumf x v reducesTo_S2x128x3584_S2x128_d2 h_S_) main_v26 main_cst_8
  let main_cst_9 : FVec F S_ .f32 := constant S_ .f32 0x3B124925#32
  let main_v28 : FVec F S2x128 .f32 := broadcastInDim S2x128 ![] bcast_S_S2x128 main_cst_9
  let main_v29 : FVec F S2x128 .f32 := mulf main_v27 main_v28
  let main_cst_10 : FVec F S_ .f32 := constant S_ .f32 0x00000000#32
  let main_v30 : FVec F S2x128 .f32 := broadcastInDim S2x128 ![] bcast_S_S2x128 main_cst_10
  let main_v31 : IVec S2x128 1 := cmpf .oeq main_v27 main_v30
  let main_cst_11 : FVec F S_ .f32 := constant S_ .f32 0x00800000#32
  let main_v32 : FVec F S2x128 .f32 := broadcastInDim S2x128 ![] bcast_S_S2x128 main_cst_11
  let main_v33 : IVec S2x128 1 := cmpf .oge main_v29 main_v32
  fn_part2 (F := F) main_v24 main_v29 main_v31 main_v33

def fn {F : FTy → Type} [FloatOps F] (main_arg0 : FVec F S2x128x3584 .bf16) (main_arg1 : IVec S3584x18944 8) (main_arg2 : FVec F S18944 .f32) (main_arg3 : FVec F S3584x32 .bf16) (main_arg4 : FVec F S32x18944 .bf16) (main_arg5 : FVec F S18944 .f32) : IVec S_ 1 :=
  let main_v0 : IVec S3584x18944 32 := (extui 32 · natLt_8_32) main_arg1
  let main_c : IVec S_ 32 := constantI S_ 32 127#32
  let main_v1 : IVec S3584x18944 32 := broadcastInDim S3584x18944 ![] bcast_S_S3584x18944 main_c
  let main_v2 : IVec S3584x18944 1 := cmpi .ne main_v0 main_v1
  let main_c_0 : IVec S_ 1 := constantI S_ 1 1#1
  let main_v3 : IVec S_ 1 := (fun x v => Host.reduce IntOp.andi x v reducesTo_S3584x18944_S_d0_1 h_S_) main_v2 main_c_0
  let main_c_1 : IVec S_ 32 := constantI S_ 32 255#32
  let main_v4 : IVec S3584x18944 32 := broadcastInDim S3584x18944 ![] bcast_S_S3584x18944 main_c_1
  let main_v5 : IVec S3584x18944 1 := cmpi .ne main_v0 main_v4
  let main_c_2 : IVec S_ 1 := constantI S_ 1 1#1
  let main_v6 : IVec S_ 1 := (fun x v => Host.reduce IntOp.andi x v reducesTo_S3584x18944_S_d0_1 h_S_) main_v5 main_c_2
  let main_v7 : IVec S_ 1 := andi main_v3 main_v6
  let main_v8 : FVec F S18944 .f32 := Host.absf main_arg2
  let main_cst : FVec F S_ .f32 := constant S_ .f32 0x7F800000#32
  let main_v9 : FVec F S18944 .f32 := broadcastInDim S18944 ![] bcast_S_S18944 main_cst
  let main_v10 : IVec S18944 1 := cmpf .olt main_v8 main_v9
  let main_c_3 : IVec S_ 1 := constantI S_ 1 1#1
  let main_v11 : IVec S_ 1 := (fun x v => Host.reduce IntOp.andi x v reducesTo_S18944_S_d0 h_S_) main_v10 main_c_3
  let main_v12 : IVec S_ 1 := andi main_v7 main_v11
  let main_v13 : FVec F S3584x32 .f32 := (extf .f32 · bitsLt_bf16_f32) main_arg3
  let main_v14 : FVec F S3584x32 .f32 := Host.absf main_v13
  let main_cst_4 : FVec F S_ .f32 := constant S_ .f32 0x7F800000#32
  let main_v15 : FVec F S3584x32 .f32 := broadcastInDim S3584x32 ![] bcast_S_S3584x32 main_cst_4
  let main_v16 : IVec S3584x32 1 := cmpf .olt main_v14 main_v15
  fn_part1 (F := F) main_arg0 main_arg4 main_v12 main_v16
-- ==== Kernel.lean ====
abbrev S2x128x3584 : Shape := ⟨3, ![2, 128, 3584]⟩
abbrev S3584x18944 : Shape := ⟨2, ![3584, 18944]⟩
abbrev S18944 : Shape := ⟨1, ![18944]⟩
abbrev S3584x32 : Shape := ⟨2, ![3584, 32]⟩
abbrev S32x18944 : Shape := ⟨2, ![32, 18944]⟩
abbrev S1x18944 : Shape := ⟨2, ![1, 18944]⟩
abbrev S2x128x18944 : Shape := ⟨3, ![2, 128, 18944]⟩
abbrev S256x3584 : Shape := ⟨2, ![256, 3584]⟩
abbrev S2x128 : Shape := ⟨2, ![2, 128]⟩
abbrev S3584x512 : Shape := ⟨2, ![3584, 512]⟩
abbrev S1x512 : Shape := ⟨2, ![1, 512]⟩
abbrev S32x512 : Shape := ⟨2, ![32, 512]⟩
abbrev S2x128x512 : Shape := ⟨3, ![2, 128, 512]⟩
abbrev S32x3584 : Shape := ⟨2, ![32, 3584]⟩
abbrev S256x32 : Shape := ⟨2, ![256, 32]⟩
abbrev S32x96 : Shape := ⟨2, ![32, 96]⟩
abbrev S256x128 : Shape := ⟨2, ![256, 128]⟩
abbrev S256 : Shape := ⟨1, ![256]⟩
abbrev S256x1 : Shape := ⟨2, ![256, 1]⟩
abbrev S128x128 : Shape := ⟨2, ![128, 128]⟩
abbrev S1x128 : Shape := ⟨2, ![1, 128]⟩
abbrev S32x32 : Shape := ⟨2, ![32, 32]⟩
abbrev S96x512 : Shape := ⟨2, ![96, 512]⟩
abbrev S32x128 : Shape := ⟨2, ![32, 128]⟩
abbrev S16x128 : Shape := ⟨2, ![16, 128]⟩
abbrev S128 : Shape := ⟨1, ![128]⟩
abbrev S512 : Shape := ⟨1, ![512]⟩
abbrev S256x512 : Shape := ⟨2, ![256, 512]⟩

abbrev nBuf : Space → Nat
  | .hbm => 13
  | .vmem => 20
  | .smem => 0
  | _ => 0

abbrev bufTy : (tb : Table) → Fin (tcTables nBuf tb) → BufTy
  | .hbm, ⟨0, _⟩ => ⟨S2x128x3584, .bf16⟩
  | .hbm, ⟨1, _⟩ => ⟨S3584x18944, .i8⟩
  | .hbm, ⟨2, _⟩ => ⟨S18944, .f32⟩
  | .hbm, ⟨3, _⟩ => ⟨S3584x32, .bf16⟩
  | .hbm, ⟨4, _⟩ => ⟨S32x18944, .bf16⟩
  | .hbm, ⟨5, _⟩ => ⟨S18944, .f32⟩
  | .hbm, ⟨6, _⟩ => ⟨S3584x18944, .fp8e4m3⟩
  | .hbm, ⟨7, _⟩ => ⟨S1x18944, .f32⟩
  | .hbm, ⟨8, _⟩ => ⟨S1x18944, .f32⟩
  | .hbm, ⟨9, _⟩ => ⟨S2x128x18944, .bf16⟩
  | .hbm, ⟨10, _⟩ => ⟨S1x18944, .f32⟩
  | .hbm, ⟨11, _⟩ => ⟨S256x3584, .fp8e4m3⟩
  | .hbm, ⟨12, _⟩ => ⟨S2x128, .f32⟩
  | .local _ .vmem, ⟨0, _⟩ => ⟨S2x128x3584, .bf16⟩
  | .local _ .vmem, ⟨1, _⟩ => ⟨S3584x512, .fp8e4m3⟩
  | .local _ .vmem, ⟨2, _⟩ => ⟨S3584x512, .fp8e4m3⟩
  | .local _ .vmem, ⟨3, _⟩ => ⟨S1x512, .f32⟩
  | .local _ .vmem, ⟨4, _⟩ => ⟨S1x512, .f32⟩
  | .local _ .vmem, ⟨5, _⟩ => ⟨S3584x32, .bf16⟩
  | .local _ .vmem, ⟨6, _⟩ => ⟨S32x512, .bf16⟩
  | .local _ .vmem, ⟨7, _⟩ => ⟨S32x512, .bf16⟩
  | .local _ .vmem, ⟨8, _⟩ => ⟨S1x512, .f32⟩
  | .local _ .vmem, ⟨9, _⟩ => ⟨S1x512, .f32⟩
  | .local _ .vmem, ⟨10, _⟩ => ⟨S2x128x512, .bf16⟩
  | .local _ .vmem, ⟨11, _⟩ => ⟨S2x128x512, .bf16⟩
  | .local _ .vmem, ⟨12, _⟩ => ⟨S1x512, .f32⟩
  | .local _ .vmem, ⟨13, _⟩ => ⟨S1x512, .f32⟩
  | .local _ .vmem, ⟨14, _⟩ => ⟨S256x3584, .fp8e4m3⟩
  | .local _ .vmem, ⟨15, _⟩ => ⟨S2x128, .f32⟩
  | .local _ .vmem, ⟨16, _⟩ => ⟨S32x3584, .bf16⟩
  | .local _ .vmem, ⟨17, _⟩ => ⟨S256x32, .bf16⟩
  | .local _ .vmem, ⟨18, _⟩ => ⟨S32x96, .bf16⟩
  | .local _ .vmem, ⟨19, _⟩ => ⟨S256x128, .f32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3584x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2x128x3584 : Shape := ⟨3, ![2, 128, 3584]⟩
abbrev S3584x18944 : Shape := ⟨2, ![3584, 18944]⟩
abbrev S18944 : Shape := ⟨1, ![18944]⟩
abbrev S3584x32 : Shape := ⟨2, ![3584, 32]⟩
abbrev S32x18944 : Shape := ⟨2, ![32, 18944]⟩
abbrev S1x18944 : Shape := ⟨2, ![1, 18944]⟩
abbrev S2x128x18944 : Shape := ⟨3, ![2, 128, 18944]⟩
abbrev S256x3584 : Shape := ⟨2, ![256, 3584]⟩
abbrev S2x128 : Shape := ⟨2, ![2, 128]⟩
abbrev S2x128x1 : Shape := ⟨3, ![2, 128, 1]⟩
abbrev S1x1x18944 : Shape := ⟨3, ![1, 1, 18944]⟩
abbrev S2x128x32 : Shape := ⟨3, ![2, 128, 32]⟩

abbrev nBuf : Space → Nat
  | .hbm => 13
  | .vmem => 10
  | .smem => 0
  | _ => 0

abbrev bufTy : (tb : Table) → Fin (tcTables nBuf tb) → BufTy
  | .hbm, ⟨0, _⟩ => ⟨S2x128x3584, .bf16⟩
  | .hbm, ⟨1, _⟩ => ⟨S3584x18944, .i8⟩
  | .hbm, ⟨2, _⟩ => ⟨S18944, .f32⟩
  | .hbm, ⟨3, _⟩ => ⟨S3584x32, .bf16⟩
  | .hbm, ⟨4, _⟩ => ⟨S32x18944, .bf16⟩
  | .hbm, ⟨5, _⟩ => ⟨S18944, .f32⟩
  | .hbm, ⟨6, _⟩ => ⟨S3584x18944, .fp8e4m3⟩
  | .hbm, ⟨7, _⟩ => ⟨S1x18944, .f32⟩
  | .hbm, ⟨8, _⟩ => ⟨S1x18944, .f32⟩
  | .hbm, ⟨9, _⟩ => ⟨S2x128x18944, .bf16⟩
  | .hbm, ⟨10, _⟩ => ⟨S1x18944, .f32⟩
  | .hbm, ⟨11, _⟩ => ⟨S256x3584, .fp8e4m3⟩
  | .hbm, ⟨12, _⟩ => ⟨S2x128, .f32⟩
  | .local _ .vmem, ⟨0, _⟩ => ⟨S2x128x3584, .bf16⟩
  | .local _ .vmem, ⟨1, _⟩ => ⟨S3584x18944, .fp8e4m3⟩
  | .local _ .vmem, ⟨2, _⟩ => ⟨S1x18944, .f32⟩
  | .local _ .vmem, ⟨3, _⟩ => ⟨S3584x32, .bf16⟩
  | .local _ .vmem, ⟨4, _⟩ => ⟨S32x18944, .bf16⟩
  | .local _ .vmem, ⟨5, _⟩ => ⟨S1x18944, .f32⟩
  | .local _ .vmem, ⟨6, _⟩ => ⟨S2x128x18944, .bf16⟩
  | .local _ .vmem, ⟨7, _⟩ => ⟨S1x18944, .f32⟩
  | .local _ .vmem, ⟨8, _⟩ => ⟨S256x3584, .fp8e4m3⟩
  | .local _ .vmem, ⟨9, _⟩ => ⟨S2x128, .f32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x18944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x18944 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x18944 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Run.Setup.lean ====
/- What the runs of the kernel body are stated over: the condition of its `scf.if` in closed form (it holds at the first
   grid point only), the staging memref of each window at a point, and the four scratch buffers. -/
module

public import proofs.«01_k».proof.Proof.Gen.KernelIdeal.Frame
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, e0]
    word_cmp
   : ∀ t : Fin grid0.N, cond0_0 (grid0.coords t) ↔ t.val % 37 = 0)

/-! ## The kernel body on any staging memrefs: a subtype the run finds -/

/-- One staging buffer of output window 6, through which its contents are stated (`View.read_writes_of_cover`: the
    choice does not matter). -/
abbrev VO0_6 : View sig .tc .vmem S2x128x512 .bf16 := (Memref.whole cc0_stg6_0 : Memref sig .tc .vmem S2x128x512 .bf16).view
/-- One staging buffer of output window 7, through which its contents are stated (`View.read_writes_of_cover`: the
    choice does not matter). -/
abbrev VO0_7 : View sig .tc .vmem S1x512 .f32 := (Memref.whole cc0_stg7_0 : Memref sig .tc .vmem S1x512 .f32).view
/-- One staging buffer of output window 8, through which its contents are stated (`View.read_writes_of_cover`: the
    choice does not matter). -/
abbrev VO0_8 : View sig .tc .vmem S256x3584 .fp8e4m3 := (Memref.whole cc0_stg8_0 : Memref sig .tc .vmem S256x3584 .fp8e4m3).view
/-- One staging buffer of output window 9, through which its contents are stated (`View.read_writes_of_cover`: the
    choice does not matter). -/
abbrev VO0_9 : View sig .tc .vmem S2x128 .f32 := (Memref.whole cc0_stg9_0 : Memref sig .tc .vmem S2x128 .f32).view
/-- Each window's current staging memref at point `t`, spelled as the pipeline passes it (`bodyAt0`), and its wholeness. -/
abbrev ms0_0 (t : Fin cfg0.N) : Memref sig .tc .vmem S2x128x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x32 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x3584 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S32x3584 .bf16 := Memref.whole cc0_scratch0
abbrev scM0_1 : Memref sig .tc .vmem S256x32 .bf16 := Memref.whole cc0_scratch1
abbrev scM0_2 : Memref sig .tc .vmem S32x96 .bf16 := Memref.whole cc0_scratch2
abbrev scM0_3 : Memref sig .tc .vmem S256x128 .f32 := Memref.whole cc0_scratch3
/-- The scratch `arg11` the kernel carries between points, as a view: what it holds is stated through it. -/
abbrev VS0_0 : View sig .tc .vmem S32x3584 .bf16 := scM0_0.view
/-- The scratch `arg12` the kernel carries between points, as a view: what it holds is stated through it. -/
abbrev VS0_1 : View sig .tc .vmem S256x32 .bf16 := scM0_1.view
/-- The scratch `arg13` the kernel carries between points, as a view: what it holds is stated through it. -/
abbrev VS0_2 : View sig .tc .vmem S32x96 .bf16 := scM0_2.view
/-- The scratch `arg14` the kernel carries between points, as a view: what it holds is stated through it. -/
abbrev VS0_3 : View sig .tc .vmem S256x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Run

end
-- ==== Proof.Run.RunA.lean ====
/- The kernel body at the first grid point. -/
module

public import proofs.«01_k».proof.Proof.Run.Setup

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- THE FIRST GRID POINT. On whole staging memrefs, the inputs' at the contents `x0 … x5`, everything else at anything,
    the body runs and leaves each output and each scratch buffer with a list of stored pieces (found by the run). -/
noncomputable def kernelRun0_A (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : cond0_0 i)
    (x0 : Vec F S2x128x3584 .bf16) (x1 : Vec F S3584x512 .fp8e4m3) (x2 : Vec F S1x512 .f32) (x3 : Vec F S3584x32 .bf16) (x4 : Vec F S32x512 .bf16) (x5 : Vec F S1x512 .f32) :
    Σ' (L6 : List (View.Piece (Elt F) S2x128x512 .bf16)), Σ' (L7 : List (View.Piece (Elt F) S1x512 .f32)), Σ' (L8 : List (View.Piece (Elt F) S256x3584 .fp8e4m3)), Σ' (L9 : List (View.Piece (Elt F) S2x128 .f32)), Σ' (LS0 : List (View.Piece (Elt F) S32x3584 .bf16)), Σ' (LS1 : List (View.Piece (Elt F) S256x32 .bf16)), Σ' (LS2 : List (View.Piece (Elt F) S32x96 .bf16)), { LS3 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0_dora_fp8_linear i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0_dora_fp8_linear_eq_skeleton]; unfold cc0_dora_fp8_linear_skel
    simp only [k0_part102_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.KernelIdeal.Run

end
-- ==== Proof.Run.RunB.lean ====
/- The kernel body at every grid point but the first. -/
module

public import proofs.«01_k».proof.Proof.Run.RunA

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- EVERY LATER GRID POINT. With the codes, the scales and the four scratch buffers at what an earlier point left
    (`xo8`, `xo9`, `xs0 … xs3`), the body leaves those as they are and stores pieces into the outputs 6 and 7 only. -/
noncomputable def kernelRun0_B (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : ¬cond0_0 i)
    (x0 : Vec F S2x128x3584 .bf16) (x1 : Vec F S3584x512 .fp8e4m3) (x2 : Vec F S1x512 .f32) (x3 : Vec F S3584x32 .bf16) (x4 : Vec F S32x512 .bf16) (x5 : Vec F S1x512 .f32) (xo8 : Vec F S256x3584 .fp8e4m3) (xo9 : Vec F S2x128 .f32) (xs0 : Vec F S32x3584 .bf16) (xs1 : Vec F S256x32 .bf16) (xs2 : Vec F S32x96 .bf16) (xs3 : Vec F S256x128 .f32) :
    Σ' (L6 : List (View.Piece (Elt F) S2x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xo8 ∗ owns (c : Thread nD τ) arg10 fullShare xo9 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xo8 ∗ owns (c : Thread nD τ) arg10 fullShare xo9 ∗ owns (c : Thread nD τ) arg11 fullShare xs0 ∗ owns (c : Thread nD τ) arg12 fullShare xs1 ∗ owns (c : Thread nD τ) arg13 fullShare xs2 ∗ owns (c : Thread nD τ) arg14 fullShare xs3) -∗ K ⟨⟩))
          ⊢ wp frame (wpE (defs₀ (F := F)) Variants.none c none) E (cc0_dora_fp8_linear i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_dora_fp8_linear_eq_skeleton]; unfold cc0_dora_fp8_linear_skel
    simp only [k0_part102_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0; obtain rfl := harg12.eq_unread hfs1; obtain rfl := harg13.eq_unread hfs2; obtain rfl := harg14.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    iexists _; isplitr; · ipureintro; exact harg14.read_unread _
    iexact HS3

end Cert.KernelIdeal.Run

end
-- ==== Proof.Run.Frame.lean ====
/- What the outputs and the carried scratch hold after each grid point, the body obligation, the run of the whole
   program, and its frame. -/
module

public import proofs.«01_k».proof.Proof.Run.RunB
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first point leaves -/

section First

variable (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : cond0_0 i) (x0 : Vec F S2x128x3584 .bf16) (x1 : Vec F S3584x512 .fp8e4m3) (x2 : Vec F S1x512 .f32) (x3 : Vec F S3584x32 .bf16) (x4 : Vec F S32x512 .bf16) (x5 : Vec F S1x512 .f32)

/-- The pieces stored into output 6 cover it. -/
theorem cover0_A_6 (y : S2x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1 S2x128x512.size (by sl_kernel_rfl) y

/-- What output 6 holds afterwards: the stored pieces read back. -/
def out0_A_6 : Vec F S2x128x512 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1)

/-- The pieces stored into output 7 cover it. -/
theorem cover0_A_7 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1 S1x512.size (by sl_kernel_rfl) y

/-- What output 7 holds afterwards: the stored pieces read back. -/
def out0_A_7 : Vec F S1x512 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1)

/-- The pieces stored into output 8 cover it. -/
theorem cover0_A_8 (y : S256x3584.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1 S256x3584.size (by sl_kernel_rfl) y

/-- What output 8 holds afterwards: the stored pieces read back. -/
def out0_A_8 : Vec F S256x3584 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1)

/-- The pieces stored into output 9 cover it. -/
theorem cover0_A_9 (y : S2x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1 ![1, 128] (by sl_kernel_rfl) y

/-- What output 9 holds afterwards: the stored pieces read back. -/
def out0_A_9 : Vec F S2x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1)

/-- The pieces stored into scratch 0 cover it. -/
theorem scover0_A_0 (y : S32x3584.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1 S32x3584.size (by sl_kernel_rfl) y

/-- What scratch 0 holds afterwards: the stored pieces read back. -/
def sout0_A_0 : Vec F S32x3584 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1)

/-- The pieces stored into scratch 1 cover it. -/
theorem scover0_A_1 (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1 S256x32.size (by sl_kernel_rfl) y

/-- What scratch 1 holds afterwards: the stored pieces read back. -/
def sout0_A_1 : Vec F S256x32 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1)

/-- The pieces stored into scratch 2 cover it. -/
theorem scover0_A_2 (y : S32x96.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1 S32x96.size (by sl_kernel_rfl) y

/-- What scratch 2 holds afterwards: the stored pieces read back. -/
def sout0_A_2 : Vec F S32x96 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1)

/-- The pieces stored into scratch 3 cover it. -/
theorem scover0_A_3 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.2.1 S256x128.size (by sl_kernel_rfl) y

/-- What scratch 3 holds afterwards: the stored pieces read back. -/
def sout0_A_3 : Vec F S256x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.2.1)

end First

/-! ## What a later point leaves in the outputs 6 and 7 -/

section Later

variable (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : ¬cond0_0 i) (x0 : Vec F S2x128x3584 .bf16) (x1 : Vec F S3584x512 .fp8e4m3) (x2 : Vec F S1x512 .f32) (x3 : Vec F S3584x32 .bf16) (x4 : Vec F S32x512 .bf16) (x5 : Vec F S1x512 .f32) (xo8 : Vec F S256x3584 .fp8e4m3) (xo9 : Vec F S2x128 .f32) (xs0 : Vec F S32x3584 .bf16) (xs1 : Vec F S256x32 .bf16) (xs2 : Vec F S32x96 .bf16) (xs3 : Vec F S256x128 .f32)

/-- The pieces stored into output 6 cover it. -/
theorem cover0_B_6 (y : S2x128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).1 S2x128x512.size (by sl_kernel_rfl) y

/-- What output 6 holds afterwards: the stored pieces read back. -/
def out0_B_6 : Vec F S2x128x512 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).1)

/-- The pieces stored into output 7 cover it. -/
theorem cover0_B_7 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).2.1 S1x512.size (by sl_kernel_rfl) y

/-- What output 7 holds afterwards: the stored pieces read back. -/
def out0_B_7 : Vec F S1x512 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).2.1)

end Later

variable (m : (ℓ : Loc nD τ sig) → Buf (Elt F) ℓ) (ρ : Dev nD → PrngReg)

/-! ## What the outputs and the scratch hold after each point -/

/-- The outputs 6 … 9, then the four scratch buffers. -/
abbrev St (F : FTy → Type) : Type := Vec F S2x128x512 .bf16 × Vec F S1x512 .f32 × Vec F S256x3584 .fp8e4m3 × Vec F S2x128 .f32 × Vec F S32x3584 .bf16 × Vec F S256x32 .bf16 × Vec F S32x96 .bf16 × Vec F S256x128 .f32

/-- After the first point. -/
def stA (c : Dev nD) (t : Fin cfg0.N) (h : cond0_0 (grid0.coords t)) : St F :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t))

/-- After a later point, over the state `p` the point before left: the codes, the scales and the scratch stay. -/
def stB (c : Dev nD) (t : Fin cfg0.N) (h : ¬cond0_0 (grid0.coords t)) (p : St F) : St F :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t) p.2.2.1 p.2.2.2.1 p.2.2.2.2.1 p.2.2.2.2.2.1 p.2.2.2.2.2.2.1 p.2.2.2.2.2.2.2,
   out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t) p.2.2.1 p.2.2.2.1 p.2.2.2.2.1 p.2.2.2.2.2.1 p.2.2.2.2.2.2.1 p.2.2.2.2.2.2.2,
   p.2.2)

theorem not_cond_succ (n : ℕ) (hn : n + 1 < cfg0.N) : ¬cond0_0 (grid0.coords ⟨n + 1, hn⟩) := fun h => by
  have h1 := (hcond0_0 ⟨n + 1, hn⟩).mp h
  have hN : n + 1 < 37 := lt_of_lt_of_eq hn (show cfg0.N = 37 from N_0)
  dsimp only at h1; omega

/-- The state after the body at position `n`. -/
def outsAt0 (c : Dev nD) : (n : ℕ) → n < cfg0.N → St F
  | 0, hn => stA m c ⟨0, hn⟩ ((hcond0_0 ⟨0, hn⟩).mpr (Nat.zero_mod 37))
  | n + 1, hn => stB m c ⟨n + 1, hn⟩ (not_cond_succ n hn) (outsAt0 c n (Nat.lt_of_succ_lt hn))

/-- The state after the first point. -/
theorem outsAt0_A (c : Dev nD) (t : Fin cfg0.N) (h0 : t.val % 37 = 0) :
    outsAt0 m c t.val t.isLt = stA m c t ((hcond0_0 t).mpr h0) := by
  obtain ⟨n, hn⟩ := t
  cases n with
  | zero => exact rfl
  | succ n => exact absurd ((hcond0_0 _).mpr h0) (not_cond_succ n hn)

/-- The state after a later point, over what the point before left. -/
theorem outsAt0_B (c : Dev nD) (t : Fin cfg0.N) (h0 : ¬t.val % 37 = 0) :
    outsAt0 m c t.val t.isLt = stB m c t (fun h => h0 ((hcond0_0 t).mp h)) (outsAt0 m c (t.val - 1) (Nat.lt_of_le_of_lt (Nat.sub_le _ _) t.isLt)) := by
  obtain ⟨n, hn⟩ := t
  cases n with
  | zero => exact absurd (Nat.zero_mod _) h0
  | succ n => exact rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2.1) ∗ owns (c : Thread nD τ) scM0_3 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- Outputs 8 and 9 are stored at the first point only: elsewhere the program counts them idle. -/
theorem live8 (t : Fin cfg0.N) (h0 : t.val % 37 = 0) : cfg0.idle 8 (cfg0.grid.coords t) = false ∧ cfg0.idle 9 (cfg0.grid.coords t) = false := by
  have h : k0_cond1 (grid0.coords t) = 1#1 := (hcond0_0 t).mpr h0
  constructor <;> (show (!(k0_cond1 (grid0.coords t) == 1#1)) = false; rw [h]; rfl)
theorem idle8 (t : Fin cfg0.N) (h0 : ¬t.val % 37 = 0) : cfg0.idle 8 (cfg0.grid.coords t) = true ∧ cfg0.idle 9 (cfg0.grid.coords t) = true := by
  have h : ¬k0_cond1 (grid0.coords t) = 1#1 := fun h => h0 ((hcond0_0 t).mp h)
  constructor <;> (show (!(k0_cond1 (grid0.coords t) == 1#1)) = true; simpa using h)

theorem kept8 (c : Dev nD) (t : Fin cfg0.N) (d) : (dats m 0 c).kept 8 t d = (dats m 0 c).after 8 t := by
  unfold Dat.kept
  rw [Pipeline.fill_of_clip_none 8 _ (fun _ => rfl) d ((dats m 0 c).after 8 t), Window.fill_cut]
theorem kept9 (c : Dev nD) (t : Fin cfg0.N) (d) : (dats m 0 c).kept 9 t d = (dats m 0 c).after 9 t := by
  unfold Dat.kept
  rw [Pipeline.fill_of_clip_none 9 _ (fun _ => rfl) d ((dats m 0 c).after 9 t), Window.fill_cut]

/-- What the first point left in output 8's buffer (the codes) is there at every later point. -/
theorem before8_succ (c : Dev nD) (n : ℕ) (hn : n + 1 < cfg0.N) (d) :
    (dats m 0 c).before 8 ⟨n + 1, hn⟩ d = (outsAt0 m c n (Nat.lt_of_succ_lt hn)).2.2.1 := by
  have hN : n + 1 < 37 := lt_of_lt_of_eq hn (show cfg0.N = 37 from N_0)
  have hfl : (cfg0.win 8).flush ⟨n, Nat.lt_of_succ_lt hn⟩ = false :=
    Bool.eq_false_iff.mpr fun h => by have := (flush0_8 _).mp h; dsimp only at this; omega
  induction n with
  | zero =>
    rw [Dat.before_of_pos _ 8 ⟨0 + 1, hn⟩ (Nat.succ_ne_zero _) ((cfg0.win 8).fetch_out rfl _)]
    rw [if_neg (by rw [show (cfg0.win 8).flush ⟨(⟨0 + 1, hn⟩ : Fin cfg0.N).val - 1, _⟩ = false from hfl]; exact Bool.false_ne_true)]
    unfold Dat.left
    rw [show cfg0.idle 8 (cfg0.grid.coords ⟨(⟨0 + 1, hn⟩ : Fin cfg0.N).val - 1, _⟩) = false from (live8 ⟨0, Nat.lt_of_succ_lt hn⟩ rfl).1]
    exact (kept8 m c ⟨0, Nat.lt_of_succ_lt hn⟩ d).trans (after0_8 m c ⟨0, _⟩)
  | succ n ih =>
    rw [Dat.before_of_pos _ 8 ⟨n + 1 + 1, hn⟩ (Nat.succ_ne_zero _) ((cfg0.win 8).fetch_out rfl _)]
    rw [if_neg (by rw [show (cfg0.win 8).flush ⟨(⟨n + 1 + 1, hn⟩ : Fin cfg0.N).val - 1, _⟩ = false from hfl]; exact Bool.false_ne_true)]
    unfold Dat.left
    rw [show cfg0.idle 8 (cfg0.grid.coords ⟨(⟨n + 1 + 1, hn⟩ : Fin cfg0.N).val - 1, _⟩) = true from (idle8 ⟨n + 1, Nat.lt_of_succ_lt hn⟩ (by dsimp only; omega)).1]
    exact ih (Nat.lt_of_succ_lt hn) (by omega) (Bool.eq_false_iff.mpr fun h => by have := (flush0_8 _).mp h; dsimp only at this; omega)

theorem before9_succ (c : Dev nD) (n : ℕ) (hn : n + 1 < cfg0.N) (d) :
    (dats m 0 c).before 9 ⟨n + 1, hn⟩ d = (outsAt0 m c n (Nat.lt_of_succ_lt hn)).2.2.2.1 := by
  have hN : n + 1 < 37 := lt_of_lt_of_eq hn (show cfg0.N = 37 from N_0)
  have hfl : (cfg0.win 9).flush ⟨n, Nat.lt_of_succ_lt hn⟩ = false :=
    Bool.eq_false_iff.mpr fun h => by have := (flush0_9 _).mp h; dsimp only at this; omega
  induction n with
  | zero =>
    rw [Dat.before_of_pos _ 9 ⟨0 + 1, hn⟩ (Nat.succ_ne_zero _) ((cfg0.win 9).fetch_out rfl _)]
    rw [if_neg (by rw [show (cfg0.win 9).flush ⟨(⟨0 + 1, hn⟩ : Fin cfg0.N).val - 1, _⟩ = false from hfl]; exact Bool.false_ne_true)]
    unfold Dat.left
    rw [show cfg0.idle 9 (cfg0.grid.coords ⟨(⟨0 + 1, hn⟩ : Fin cfg0.N).val - 1, _⟩) = false from (live8 ⟨0, Nat.lt_of_succ_lt hn⟩ rfl).2]
    exact (kept9 m c ⟨0, Nat.lt_of_succ_lt hn⟩ d).trans (after0_9 m c ⟨0, _⟩)
  | succ n ih =>
    rw [Dat.before_of_pos _ 9 ⟨n + 1 + 1, hn⟩ (Nat.succ_ne_zero _) ((cfg0.win 9).fetch_out rfl _)]
    rw [if_neg (by rw [show (cfg0.win 9).flush ⟨(⟨n + 1 + 1, hn⟩ : Fin cfg0.N).val - 1, _⟩ = false from hfl]; exact Bool.false_ne_true)]
    unfold Dat.left
    rw [show cfg0.idle 9 (cfg0.grid.coords ⟨(⟨n + 1 + 1, hn⟩ : Fin cfg0.N).val - 1, _⟩) = true from (idle8 ⟨n + 1, Nat.lt_of_succ_lt hn⟩ (by dsimp only; omega)).2]
    exact ih (Nat.lt_of_succ_lt hn) (by omega) (Bool.eq_false_iff.mpr fun h => by have := (flush0_9 _).mp h; dsimp only at this; omega)

theorem before0_8_B (c : Dev nD) (t : Fin cfg0.N) (h0 : ¬t.val % 37 = 0) (d) :
    (dats m 0 c).before 8 t d = (outsAt0 m c (t.val - 1) (Nat.lt_of_le_of_lt (Nat.sub_le _ _) t.isLt)).2.2.1 := by
  obtain ⟨n, hn⟩ := t
  cases n with
  | zero => exact absurd (Nat.zero_mod _) h0
  | succ n => exact before8_succ m c n hn d
theorem before0_9_B (c : Dev nD) (t : Fin cfg0.N) (h0 : ¬t.val % 37 = 0) (d) :
    (dats m 0 c).before 9 t d = (outsAt0 m c (t.val - 1) (Nat.lt_of_le_of_lt (Nat.sub_le _ _) t.isLt)).2.2.2.1 := by
  obtain ⟨n, hn⟩ := t
  cases n with
  | zero => exact absurd (Nat.zero_mod _) h0
  | succ n => exact before9_succ m c n hn d

/-- The buffers 8 and 9 at what the recursion says they hold are what the obligation asks back. -/
theorem leaves8 (c : Dev nD) (t : Fin cfg0.N) : owns (c : Thread nD τ) (ms0_8 t) fullShare ((dats m 0 c).after 8 t) ⊢ (dats m 0 c).leavesExact 8 t := by
  by_cases h0 : t.val % 37 = 0
  · unfold Dat.leavesExact; rw [(live8 t h0).1]
  · cases hf : (cfg0.win 8).flush t
    · rw [Dat.leavesExact_idle _ 8 t (idle8 t h0).1 hf]
      iintro H
      iexists (fun _ => Classical.arbitrary _)
      rw [before0_8_B m c t h0, after0_8, outsAt0_B m c t h0]
      iexact H
    · unfold Dat.leavesExact; rw [(idle8 t h0).1, hf]
theorem leaves9 (c : Dev nD) (t : Fin cfg0.N) : owns (c : Thread nD τ) (ms0_9 t) fullShare ((dats m 0 c).after 9 t) ⊢ (dats m 0 c).leavesExact 9 t := by
  by_cases h0 : t.val % 37 = 0
  · unfold Dat.leavesExact; rw [(live8 t h0).2]
  · cases hf : (cfg0.win 9).flush t
    · rw [Dat.leavesExact_idle _ 9 t (idle8 t h0).2 hf]
      iintro H
      iexists (fun _ => Classical.arbitrary _)
      rw [before0_9_B m c t h0, after0_9, outsAt0_B m c t h0]
      iexact H
    · unfold Dat.leavesExact; rw [(idle8 t h0).2, hf]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 37 := lt_of_lt_of_eq t.isLt (show cfg0.N = 37 from N_0)
  by_cases h0 : t.val % 37 = 0
  · by_cases hz : t.val = 0
    · rw [PhiS_castSucc m c t, PhiS_zero m c _ _ hz, PhiA0_eq]
      rw [outsAt0_A m c t h0]
      unfold stA out0_A_6 out0_A_7 out0_A_8 out0_A_9 sout0_A_0 sout0_A_1 sout0_A_2 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _)
    · exfalso; have hN : t.val < 37 := lt_of_lt_of_eq t.isLt (show cfg0.N = 37 from N_0); omega
  · by_cases hz : t.val = 0
    · exfalso; have hN : t.val < 37 := lt_of_lt_of_eq t.isLt (show cfg0.N = 37 from N_0); omega
    · rw [PhiS_castSucc m c t, PhiS_pos m c _ _ hz]
      rw [outsAt0_B m c t h0]
      simp only [before0_8_B m c t h0, before0_9_B m c t h0]
      unfold stB out0_B_6 out0_B_7; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ _ _ _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, ⟨%e6, H6⟩, ⟨%e7, H7⟩, H8, H9, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _ _ _ _)
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body hands back, with buffers 8 and 9 in the form the obligation asks for. -/
def bodyPost' (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (dats m 0 c).leavesExact 8 t
    ∗ (dats m 0 c).leavesExact 9 t)

theorem post_post' (c : Dev nD) (t : Fin cfg0.N) : bodyPost m c t ⊢ bodyPost' m c t := by
  unfold bodyPost bodyPost'
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves8 m c t); iexact H8
  iapply (leaves9 m c t); iexact H9

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_post' m c t

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 37 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: the kernel terminates, its arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.RunK.Setup.lean ====
/- What the runs of the kernel body are stated over: the condition of its `scf.if` in closed form (it holds at the first
   grid point only), the staging memref of each window at a point, and the four scratch buffers. -/
module

public import proofs.«01_k».proof.Proof.Gen.Kernel.Frame
public import proofs.«01_k».proof.Proof.Gen.Kernel.Skeleton

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, e0]
    word_cmp
   : ∀ t : Fin grid0.N, cond0_0 (grid0.coords t) ↔ t.val % 37 = 0)

/-! ## The kernel body on any staging memrefs: a subtype the run finds -/

/-- One staging buffer of output window 6, through which its contents are stated (`View.read_writes_of_cover`: the
    choice does not matter). -/
abbrev VO0_6 : View sig .tc .vmem S2x128x512 .bf16 := (Memref.whole cc0_stg6_0 : Memref sig .tc .vmem S2x128x512 .bf16).view
/-- One staging buffer of output window 7, through which its contents are stated (`View.read_writes_of_cover`: the
    choice does not matter). -/
abbrev VO0_7 : View sig .tc .vmem S1x512 .f32 := (Memref.whole cc0_stg7_0 : Memref sig .tc .vmem S1x512 .f32).view
/-- One staging buffer of output window 8, through which its contents are stated (`View.read_writes_of_cover`: the
    choice does not matter). -/
abbrev VO0_8 : View sig .tc .vmem S256x3584 .fp8e4m3 := (Memref.whole cc0_stg8_0 : Memref sig .tc .vmem S256x3584 .fp8e4m3).view
/-- One staging buffer of output window 9, through which its contents are stated (`View.read_writes_of_cover`: the
    choice does not matter). -/
abbrev VO0_9 : View sig .tc .vmem S2x128 .f32 := (Memref.whole cc0_stg9_0 : Memref sig .tc .vmem S2x128 .f32).view
/-- Each window's current staging memref at point `t`, spelled as the pipeline passes it (`bodyAt0`), and its wholeness. -/
abbrev ms0_0 (t : Fin cfg0.N) : Memref sig .tc .vmem S2x128x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x32 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x3584 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S32x3584 .bf16 := Memref.whole cc0_scratch0
abbrev scM0_1 : Memref sig .tc .vmem S256x32 .bf16 := Memref.whole cc0_scratch1
abbrev scM0_2 : Memref sig .tc .vmem S32x96 .bf16 := Memref.whole cc0_scratch2
abbrev scM0_3 : Memref sig .tc .vmem S256x128 .f32 := Memref.whole cc0_scratch3
/-- The scratch `arg11` the kernel carries between points, as a view: what it holds is stated through it. -/
abbrev VS0_0 : View sig .tc .vmem S32x3584 .bf16 := scM0_0.view
/-- The scratch `arg12` the kernel carries between points, as a view: what it holds is stated through it. -/
abbrev VS0_1 : View sig .tc .vmem S256x32 .bf16 := scM0_1.view
/-- The scratch `arg13` the kernel carries between points, as a view: what it holds is stated through it. -/
abbrev VS0_2 : View sig .tc .vmem S32x96 .bf16 := scM0_2.view
/-- The scratch `arg14` the kernel carries between points, as a view: what it holds is stated through it. -/
abbrev VS0_3 : View sig .tc .vmem S256x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Run

end
-- ==== Proof.RunK.RunA.lean ====
/- The kernel body at the first grid point. -/
module

public import proofs.«01_k».proof.Proof.RunK.Setup

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- THE FIRST GRID POINT. On whole staging memrefs, the inputs' at the contents `x0 … x5`, everything else at anything,
    the body runs and leaves each output and each scratch buffer with a list of stored pieces (found by the run). -/
noncomputable def kernelRun0_A (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : cond0_0 i)
    (x0 : Vec F S2x128x3584 .bf16) (x1 : Vec F S3584x512 .fp8e4m3) (x2 : Vec F S1x512 .f32) (x3 : Vec F S3584x32 .bf16) (x4 : Vec F S32x512 .bf16) (x5 : Vec F S1x512 .f32) :
    Σ' (L6 : List (View.Piece (Elt F) S2x128x512 .bf16)), Σ' (L7 : List (View.Piece (Elt F) S1x512 .f32)), Σ' (L8 : List (View.Piece (Elt F) S256x3584 .fp8e4m3)), Σ' (L9 : List (View.Piece (Elt F) S2x128 .f32)), Σ' (LS0 : List (View.Piece (Elt F) S32x3584 .bf16)), Σ' (LS1 : List (View.Piece (Elt F) S256x32 .bf16)), Σ' (LS2 : List (View.Piece (Elt F) S32x96 .bf16)), { LS3 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2) ∗ (∃ f, arg14.view.loc (c : Thread nD τ) ↦[arg14.view.set]{fullShare} arg14.view.writes (Elt F) f LS3)) -∗ K ⟨⟩))
          ⊢ wp frame (wpE (defs₀ (F := F)) Variants.none c none) E (cc0_dora_fp8_linear i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0_dora_fp8_linear_eq_skeleton]; unfold cc0_dora_fp8_linear_skel
    simp only [k0_part102_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.Kernel.Run

end
-- ==== Proof.RunK.RunB.lean ====
/- The kernel body at every grid point but the first. -/
module

public import proofs.«01_k».proof.Proof.RunK.RunA

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- EVERY LATER GRID POINT. With the codes, the scales and the four scratch buffers at what an earlier point left
    (`xo8`, `xo9`, `xs0 … xs3`), the body leaves those as they are and stores pieces into the outputs 6 and 7 only. -/
noncomputable def kernelRun0_B (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : ¬cond0_0 i)
    (x0 : Vec F S2x128x3584 .bf16) (x1 : Vec F S3584x512 .fp8e4m3) (x2 : Vec F S1x512 .f32) (x3 : Vec F S3584x32 .bf16) (x4 : Vec F S32x512 .bf16) (x5 : Vec F S1x512 .f32) (xo8 : Vec F S256x3584 .fp8e4m3) (xo9 : Vec F S2x128 .f32) (xs0 : Vec F S32x3584 .bf16) (xs1 : Vec F S256x32 .bf16) (xs2 : Vec F S32x96 .bf16) (xs3 : Vec F S256x128 .f32) :
    Σ' (L6 : List (View.Piece (Elt F) S2x128x512 .bf16)), { L7 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xo8 ∗ owns (c : Thread nD τ) arg10 fullShare xo9 ∗ owns (c : Thread nD τ) arg11 fullShare xs0 ∗ owns (c : Thread nD τ) arg12 fullShare xs1 ∗ owns (c : Thread nD τ) arg13 fullShare xs2 ∗ owns (c : Thread nD τ) arg14 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xo8 ∗ owns (c : Thread nD τ) arg10 fullShare xo9 ∗ owns (c : Thread nD τ) arg11 fullShare xs0 ∗ owns (c : Thread nD τ) arg12 fullShare xs1 ∗ owns (c : Thread nD τ) arg13 fullShare xs2 ∗ owns (c : Thread nD τ) arg14 fullShare xs3) -∗ K ⟨⟩))
          ⊢ wp frame (wpE (defs₀ (F := F)) Variants.none c none) E (cc0_dora_fp8_linear i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_dora_fp8_linear_eq_skeleton]; unfold cc0_dora_fp8_linear_skel
    simp only [k0_part102_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0; obtain rfl := harg12.eq_unread hfs1; obtain rfl := harg13.eq_unread hfs2; obtain rfl := harg14.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    iexists _; isplitr; · ipureintro; exact harg14.read_unread _
    iexact HS3

end Cert.Kernel.Run

end
-- ==== Proof.RunK.Frame.lean ====
/- What the outputs and the carried scratch hold after each grid point, the body obligation, the run of the whole
   program, and its frame. -/
module

public import proofs.«01_k».proof.Proof.RunK.RunB
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the first point leaves -/

section First

variable (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : cond0_0 i) (x0 : Vec F S2x128x3584 .bf16) (x1 : Vec F S3584x512 .fp8e4m3) (x2 : Vec F S1x512 .f32) (x3 : Vec F S3584x32 .bf16) (x4 : Vec F S32x512 .bf16) (x5 : Vec F S1x512 .f32)

/-- The pieces stored into output 6 cover it. -/
theorem cover0_A_6 (y : S2x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1 S2x128x512.size (by sl_kernel_rfl) y

/-- What output 6 holds afterwards: the stored pieces read back. -/
def out0_A_6 : Vec F S2x128x512 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1)

/-- The pieces stored into output 7 cover it. -/
theorem cover0_A_7 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1 S1x512.size (by sl_kernel_rfl) y

/-- What output 7 holds afterwards: the stored pieces read back. -/
def out0_A_7 : Vec F S1x512 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1)

/-- The pieces stored into output 8 cover it. -/
theorem cover0_A_8 (y : S256x3584.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1 S256x3584.size (by sl_kernel_rfl) y

/-- What output 8 holds afterwards: the stored pieces read back. -/
def out0_A_8 : Vec F S256x3584 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1)

/-- The pieces stored into output 9 cover it. -/
theorem cover0_A_9 (y : S2x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1 ![1, 128] (by sl_kernel_rfl) y

/-- What output 9 holds afterwards: the stored pieces read back. -/
def out0_A_9 : Vec F S2x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1)

/-- The pieces stored into scratch 0 cover it. -/
theorem scover0_A_0 (y : S32x3584.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1 S32x3584.size (by sl_kernel_rfl) y

/-- What scratch 0 holds afterwards: the stored pieces read back. -/
def sout0_A_0 : Vec F S32x3584 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1)

/-- The pieces stored into scratch 1 cover it. -/
theorem scover0_A_1 (y : S256x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1 S256x32.size (by sl_kernel_rfl) y

/-- What scratch 1 holds afterwards: the stored pieces read back. -/
def sout0_A_1 : Vec F S256x32 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1)

/-- The pieces stored into scratch 2 cover it. -/
theorem scover0_A_2 (y : S32x96.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1 S32x96.size (by sl_kernel_rfl) y

/-- What scratch 2 holds afterwards: the stored pieces read back. -/
def sout0_A_2 : Vec F S32x96 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1)

/-- The pieces stored into scratch 3 cover it. -/
theorem scover0_A_3 (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.2.1 S256x128.size (by sl_kernel_rfl) y

/-- What scratch 3 holds afterwards: the stored pieces read back. -/
def sout0_A_3 : Vec F S256x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.2.1)

end First

/-! ## What a later point leaves in the outputs 6 and 7 -/

section Later

variable (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : ¬cond0_0 i) (x0 : Vec F S2x128x3584 .bf16) (x1 : Vec F S3584x512 .fp8e4m3) (x2 : Vec F S1x512 .f32) (x3 : Vec F S3584x32 .bf16) (x4 : Vec F S32x512 .bf16) (x5 : Vec F S1x512 .f32) (xo8 : Vec F S256x3584 .fp8e4m3) (xo9 : Vec F S2x128 .f32) (xs0 : Vec F S32x3584 .bf16) (xs1 : Vec F S256x32 .bf16) (xs2 : Vec F S32x96 .bf16) (xs3 : Vec F S256x128 .f32)

/-- The pieces stored into output 6 cover it. -/
theorem cover0_B_6 (y : S2x128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).1 S2x128x512.size (by sl_kernel_rfl) y

/-- What output 6 holds afterwards: the stored pieces read back. -/
def out0_B_6 : Vec F S2x128x512 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).1)

/-- The pieces stored into output 7 cover it. -/
theorem cover0_B_7 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).2.1 S1x512.size (by sl_kernel_rfl) y

/-- What output 7 holds afterwards: the stored pieces read back. -/
def out0_B_7 : Vec F S1x512 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3).2.1)

end Later

variable (m : (ℓ : Loc nD τ sig) → Buf (Elt F) ℓ) (ρ : Dev nD → PrngReg)

/-! ## What the outputs and the scratch hold after each point -/

/-- The outputs 6 … 9, then the four scratch buffers. -/
abbrev St (F : FTy → Type) : Type := Vec F S2x128x512 .bf16 × Vec F S1x512 .f32 × Vec F S256x3584 .fp8e4m3 × Vec F S2x128 .f32 × Vec F S32x3584 .bf16 × Vec F S256x32 .bf16 × Vec F S32x96 .bf16 × Vec F S256x128 .f32

/-- After the first point. -/
def stA (c : Dev nD) (t : Fin cfg0.N) (h : cond0_0 (grid0.coords t)) : St F :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t),
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t))

/-- After a later point, over the state `p` the point before left: the codes, the scales and the scratch stay. -/
def stB (c : Dev nD) (t : Fin cfg0.N) (h : ¬cond0_0 (grid0.coords t)) (p : St F) : St F :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t) p.2.2.1 p.2.2.2.1 p.2.2.2.2.1 p.2.2.2.2.2.1 p.2.2.2.2.2.2.1 p.2.2.2.2.2.2.2,
   out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) h (iblk m c 0 t) (iblk m c 1 t) (iblk m c 2 t) (iblk m c 3 t) (iblk m c 4 t) (iblk m c 5 t) p.2.2.1 p.2.2.2.1 p.2.2.2.2.1 p.2.2.2.2.2.1 p.2.2.2.2.2.2.1 p.2.2.2.2.2.2.2,
   p.2.2)

theorem not_cond_succ (n : ℕ) (hn : n + 1 < cfg0.N) : ¬cond0_0 (grid0.coords ⟨n + 1, hn⟩) := fun h => by
  have h1 := (hcond0_0 ⟨n + 1, hn⟩).mp h
  have hN : n + 1 < 37 := lt_of_lt_of_eq hn (show cfg0.N = 37 from N_0)
  dsimp only at h1; omega

/-- The state after the body at position `n`. -/
def outsAt0 (c : Dev nD) : (n : ℕ) → n < cfg0.N → St F
  | 0, hn => stA m c ⟨0, hn⟩ ((hcond0_0 ⟨0, hn⟩).mpr (Nat.zero_mod 37))
  | n + 1, hn => stB m c ⟨n + 1, hn⟩ (not_cond_succ n hn) (outsAt0 c n (Nat.lt_of_succ_lt hn))

/-- The state after the first point. -/
theorem outsAt0_A (c : Dev nD) (t : Fin cfg0.N) (h0 : t.val % 37 = 0) :
    outsAt0 m c t.val t.isLt = stA m c t ((hcond0_0 t).mpr h0) := by
  obtain ⟨n, hn⟩ := t
  cases n with
  | zero => exact rfl
  | succ n => exact absurd ((hcond0_0 _).mpr h0) (not_cond_succ n hn)

/-- The state after a later point, over what the point before left. -/
theorem outsAt0_B (c : Dev nD) (t : Fin cfg0.N) (h0 : ¬t.val % 37 = 0) :
    outsAt0 m c t.val t.isLt = stB m c t (fun h => h0 ((hcond0_0 t).mp h)) (outsAt0 m c (t.val - 1) (Nat.lt_of_le_of_lt (Nat.sub_le _ _) t.isLt)) := by
  obtain ⟨n, hn⟩ := t
  cases n with
  | zero => exact absurd (Nat.zero_mod _) h0
  | succ n => exact rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2.1) ∗ owns (c : Thread nD τ) scM0_2 fullShare ((outsAt0 m c n hn).2.2.2.2.2.2.1) ∗ owns (c : Thread nD τ) scM0_3 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2.1) ∗ owns (c : Thread nD τ) scM0_2 fullShare ((outsAt0 m c (n - 1) (by omega)).2.2.2.2.2.2.1) ∗ owns (c : Thread nD τ) scM0_3 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
/-- Outputs 8 and 9 are stored at the first point only: elsewhere the program counts them idle. -/
theorem live8 (t : Fin cfg0.N) (h0 : t.val % 37 = 0) : cfg0.idle 8 (cfg0.grid.coords t) = false ∧ cfg0.idle 9 (cfg0.grid.coords t) = false := by
  have h : k0_cond1 (grid0.coords t) = 1#1 := (hcond0_0 t).mpr h0
  constructor <;> (show (!(k0_cond1 (grid0.coords t) == 1#1)) = false; rw [h]; rfl)
theorem idle8 (t : Fin cfg0.N) (h0 : ¬t.val % 37 = 0) : cfg0.idle 8 (cfg0.grid.coords t) = true ∧ cfg0.idle 9 (cfg0.grid.coords t) = true := by
  have h : ¬k0_cond1 (grid0.coords t) = 1#1 := fun h => h0 ((hcond0_0 t).mp h)
  constructor <;> (show (!(k0_cond1 (grid0.coords t) == 1#1)) = true; simpa using h)

theorem kept8 (c : Dev nD) (t : Fin cfg0.N) (d) : (dats m 0 c).kept 8 t d = (dats m 0 c).after 8 t := by
  unfold Dat.kept
  rw [Pipeline.fill_of_clip_none 8 _ (fun _ => rfl) d ((dats m 0 c).after 8 t), Window.fill_cut]
theorem kept9 (c : Dev nD) (t : Fin cfg0.N) (d) : (dats m 0 c).kept 9 t d = (dats m 0 c).after 9 t := by
  unfold Dat.kept
  rw [Pipeline.fill_of_clip_none 9 _ (fun _ => rfl) d ((dats m 0 c).after 9 t), Window.fill_cut]

/-- What the first point left in output 8's buffer (the codes) is there at every later point. -/
theorem before8_succ (c : Dev nD) (n : ℕ) (hn : n + 1 < cfg0.N) (d) :
    (dats m 0 c).before 8 ⟨n + 1, hn⟩ d = (outsAt0 m c n (Nat.lt_of_succ_lt hn)).2.2.1 := by
  have hN : n + 1 < 37 := lt_of_lt_of_eq hn (show cfg0.N = 37 from N_0)
  have hfl : (cfg0.win 8).flush ⟨n, Nat.lt_of_succ_lt hn⟩ = false :=
    Bool.eq_false_iff.mpr fun h => by have := (flush0_8 _).mp h; dsimp only at this; omega
  induction n with
  | zero =>
    rw [Dat.before_of_pos _ 8 ⟨0 + 1, hn⟩ (Nat.succ_ne_zero _) ((cfg0.win 8).fetch_out rfl _)]
    rw [if_neg (by rw [show (cfg0.win 8).flush ⟨(⟨0 + 1, hn⟩ : Fin cfg0.N).val - 1, _⟩ = false from hfl]; exact Bool.false_ne_true)]
    unfold Dat.left
    rw [show cfg0.idle 8 (cfg0.grid.coords ⟨(⟨0 + 1, hn⟩ : Fin cfg0.N).val - 1, _⟩) = false from (live8 ⟨0, Nat.lt_of_succ_lt hn⟩ rfl).1]
    exact (kept8 m c ⟨0, Nat.lt_of_succ_lt hn⟩ d).trans (after0_8 m c ⟨0, _⟩)
  | succ n ih =>
    rw [Dat.before_of_pos _ 8 ⟨n + 1 + 1, hn⟩ (Nat.succ_ne_zero _) ((cfg0.win 8).fetch_out rfl _)]
    rw [if_neg (by rw [show (cfg0.win 8).flush ⟨(⟨n + 1 + 1, hn⟩ : Fin cfg0.N).val - 1, _⟩ = false from hfl]; exact Bool.false_ne_true)]
    unfold Dat.left
    rw [show cfg0.idle 8 (cfg0.grid.coords ⟨(⟨n + 1 + 1, hn⟩ : Fin cfg0.N).val - 1, _⟩) = true from (idle8 ⟨n + 1, Nat.lt_of_succ_lt hn⟩ (by dsimp only; omega)).1]
    exact ih (Nat.lt_of_succ_lt hn) (by omega) (Bool.eq_false_iff.mpr fun h => by have := (flush0_8 _).mp h; dsimp only at this; omega)

theorem before9_succ (c : Dev nD) (n : ℕ) (hn : n + 1 < cfg0.N) (d) :
    (dats m 0 c).before 9 ⟨n + 1, hn⟩ d = (outsAt0 m c n (Nat.lt_of_succ_lt hn)).2.2.2.1 := by
  have hN : n + 1 < 37 := lt_of_lt_of_eq hn (show cfg0.N = 37 from N_0)
  have hfl : (cfg0.win 9).flush ⟨n, Nat.lt_of_succ_lt hn⟩ = false :=
    Bool.eq_false_iff.mpr fun h => by have := (flush0_9 _).mp h; dsimp only at this; omega
  induction n with
  | zero =>
    rw [Dat.before_of_pos _ 9 ⟨0 + 1, hn⟩ (Nat.succ_ne_zero _) ((cfg0.win 9).fetch_out rfl _)]
    rw [if_neg (by rw [show (cfg0.win 9).flush ⟨(⟨0 + 1, hn⟩ : Fin cfg0.N).val - 1, _⟩ = false from hfl]; exact Bool.false_ne_true)]
    unfold Dat.left
    rw [show cfg0.idle 9 (cfg0.grid.coords ⟨(⟨0 + 1, hn⟩ : Fin cfg0.N).val - 1, _⟩) = false from (live8 ⟨0, Nat.lt_of_succ_lt hn⟩ rfl).2]
    exact (kept9 m c ⟨0, Nat.lt_of_succ_lt hn⟩ d).trans (after0_9 m c ⟨0, _⟩)
  | succ n ih =>
    rw [Dat.before_of_pos _ 9 ⟨n + 1 + 1, hn⟩ (Nat.succ_ne_zero _) ((cfg0.win 9).fetch_out rfl _)]
    rw [if_neg (by rw [show (cfg0.win 9).flush ⟨(⟨n + 1 + 1, hn⟩ : Fin cfg0.N).val - 1, _⟩ = false from hfl]; exact Bool.false_ne_true)]
    unfold Dat.left
    rw [show cfg0.idle 9 (cfg0.grid.coords ⟨(⟨n + 1 + 1, hn⟩ : Fin cfg0.N).val - 1, _⟩) = true from (idle8 ⟨n + 1, Nat.lt_of_succ_lt hn⟩ (by dsimp only; omega)).2]
    exact ih (Nat.lt_of_succ_lt hn) (by omega) (Bool.eq_false_iff.mpr fun h => by have := (flush0_9 _).mp h; dsimp only at this; omega)

theorem before0_8_B (c : Dev nD) (t : Fin cfg0.N) (h0 : ¬t.val % 37 = 0) (d) :
    (dats m 0 c).before 8 t d = (outsAt0 m c (t.val - 1) (Nat.lt_of_le_of_lt (Nat.sub_le _ _) t.isLt)).2.2.1 := by
  obtain ⟨n, hn⟩ := t
  cases n with
  | zero => exact absurd (Nat.zero_mod _) h0
  | succ n => exact before8_succ m c n hn d
theorem before0_9_B (c : Dev nD) (t : Fin cfg0.N) (h0 : ¬t.val % 37 = 0) (d) :
    (dats m 0 c).before 9 t d = (outsAt0 m c (t.val - 1) (Nat.lt_of_le_of_lt (Nat.sub_le _ _) t.isLt)).2.2.2.1 := by
  obtain ⟨n, hn⟩ := t
  cases n with
  | zero => exact absurd (Nat.zero_mod _) h0
  | succ n => exact before9_succ m c n hn d

/-- The buffers 8 and 9 at what the recursion says they hold are what the obligation asks back. -/
theorem leaves8 (c : Dev nD) (t : Fin cfg0.N) : owns (c : Thread nD τ) (ms0_8 t) fullShare ((dats m 0 c).after 8 t) ⊢ (dats m 0 c).leavesExact 8 t := by
  by_cases h0 : t.val % 37 = 0
  · unfold Dat.leavesExact; rw [(live8 t h0).1]
  · cases hf : (cfg0.win 8).flush t
    · rw [Dat.leavesExact_idle _ 8 t (idle8 t h0).1 hf]
      iintro H
      iexists (fun _ => Classical.arbitrary _)
      rw [before0_8_B m c t h0, after0_8, outsAt0_B m c t h0]
      iexact H
    · unfold Dat.leavesExact; rw [(idle8 t h0).1, hf]
theorem leaves9 (c : Dev nD) (t : Fin cfg0.N) : owns (c : Thread nD τ) (ms0_9 t) fullShare ((dats m 0 c).after 9 t) ⊢ (dats m 0 c).leavesExact 9 t := by
  by_cases h0 : t.val % 37 = 0
  · unfold Dat.leavesExact; rw [(live8 t h0).2]
  · cases hf : (cfg0.win 9).flush t
    · rw [Dat.leavesExact_idle _ 9 t (idle8 t h0).2 hf]
      iintro H
      iexists (fun _ => Classical.arbitrary _)
      rw [before0_9_B m c t h0, after0_9, outsAt0_B m c t h0]
      iexact H
    · unfold Dat.leavesExact; rw [(idle8 t h0).2, hf]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 37 := lt_of_lt_of_eq t.isLt (show cfg0.N = 37 from N_0)
  by_cases h0 : t.val % 37 = 0
  · by_cases hz : t.val = 0
    · rw [PhiS_castSucc m c t, PhiS_zero m c _ _ hz, PhiA0_eq]
      rw [outsAt0_A m c t h0]
      unfold stA out0_A_6 out0_A_7 out0_A_8 out0_A_9 sout0_A_0 sout0_A_1 sout0_A_2 sout0_A_3; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, ⟨%e6, H6⟩, ⟨%e7, H7⟩, ⟨%e8, H8⟩, ⟨%e9, H9⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover0_A_3 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _)
    · exfalso; have hN : t.val < 37 := lt_of_lt_of_eq t.isLt (show cfg0.N = 37 from N_0); omega
  · by_cases hz : t.val = 0
    · exfalso; have hN : t.val < 37 := lt_of_lt_of_eq t.isLt (show cfg0.N = 37 from N_0); omega
    · rw [PhiS_castSucc m c t, PhiS_pos m c _ _ hz]
      rw [outsAt0_B m c t h0]
      simp only [before0_8_B m c t h0, before0_9_B m c t h0]
      unfold stB out0_B_6 out0_B_7; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ _ _ _ _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, ⟨%e6, H6⟩, ⟨%e7, H7⟩, H8, H9, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _ _ _ _ _ _)
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body hands back, with buffers 8 and 9 in the form the obligation asks for. -/
def bodyPost' (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (dats m 0 c).leavesExact 8 t
    ∗ (dats m 0 c).leavesExact 9 t)

theorem post_post' (c : Dev nD) (t : Fin cfg0.N) : bodyPost m c t ⊢ bodyPost' m c t := by
  unfold bodyPost bodyPost'
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves8 m c t); iexact H8
  iapply (leaves9 m c t); iexact H9

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => post_post' m c t

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 37 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: the kernel terminates, its arguments end unchanged, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.Run.Strips.lean ====
/- The kernel's square sums: four strips of 112 loads each, folded into one recursion. -/
module

public import Idealize.ShloMosaic.Lib.WholeRead
public import proofs.«01_k».proof.Proof.Run.RunB
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rows `32 j … 32 j + 31` of strip `o` of the block, as the body loads them. -/
def ldk (arg2 : Memref sig .tc .vmem S3584x512 .fp8e4m3) (harg2 : arg2.IsWhole) (x1 : Vec F S3584x512 .fp8e4m3) (o : ℕ)
    (ho : ∀ j : ℕ, ∀ a, (![32 * (j % 112), o] : Fin 2 → ℕ) a + S32x128.size a ≤ S3584x512.size a) (j : ℕ) : Vec F S32x128 .fp8e4m3 :=
  View.readAt (Elt F) arg2.view (Rect.unit (s := S3584x512) ![32 * (j % 112), o] S32x128.size (ho j)).toLoadRect (harg2.unread x1)

theorem inb_strip (o : ℕ) (h : o + 128 ≤ 512) (j : ℕ) (a) : (![32 * (j % 112), o] : Fin 2 → ℕ) a + S32x128.size a ≤ S3584x512.size a := by
  have := Nat.mod_lt j (show 112 > 0 by omega)
  fin_cases a
  · show 32 * (j % 112) + 32 ≤ 3584; omega
  · show o + 128 ≤ 512; omega

/-- The squares of the upper and of the lower half of one load. -/
def sqlo (v : Vec F S32x128 .fp8e4m3) : FVec F S16x128 .f32 :=
  have w : FVec F S32x128 .bf16 := extf .bf16 (shapeCast S32x128 v shapeCasts_S32x128_S32x128 : FVec F S32x128 .fp8e4m3) bitsLt_fp8e4m3_bf16
  have p : FVec F S16x128 .f32 := extf .f32 (extractStridedSlice S16x128 ![0, 0] w slices_S32x128_o0_0_S16x128 : FVec F S16x128 .bf16) bitsLt_bf16_f32
  mulf p p
def sqhi (v : Vec F S32x128 .fp8e4m3) : FVec F S16x128 .f32 :=
  have w : FVec F S32x128 .bf16 := extf .bf16 (shapeCast S32x128 v shapeCasts_S32x128_S32x128 : FVec F S32x128 .fp8e4m3) bitsLt_fp8e4m3_bf16
  have p : FVec F S16x128 .f32 := extf .f32 (extractStridedSlice S16x128 ![16, 0] w slices_S32x128_o16_0_S16x128 : FVec F S16x128 .bf16) bitsLt_bf16_f32
  mulf p p

/-- The running sum over `n + 1` loads from load `b`. -/
def chain (L : ℕ → Vec F S32x128 .fp8e4m3) (b : ℕ) : ℕ → FVec F S16x128 .f32
  | 0 => addf (sqlo (L b)) (sqhi (L b))
  | n + 1 => addf (addf (chain L b n) (sqlo (L (b + (n + 1))))) (sqhi (L (b + (n + 1))))
/-- The sum of `n + 1` such runs of sixteen loads. -/
def tot (L : ℕ → Vec F S32x128 .fp8e4m3) : ℕ → FVec F S16x128 .f32
  | 0 => chain L 0 15
  | n + 1 => addf (tot L n) (chain L (16 * (n + 1)) 15)
/-- A strip's column sums of squares. -/
def strip (L : ℕ → Vec F S32x128 .fp8e4m3) : FVec F S1x128 .f32 :=
  shapeCast S1x128 (multiReduction .add [0] S128 (tot L 6) 0x00000000#32 reduces_S16x128_S128 (.inl rfl) rfl) shapeCasts_S128_S1x128

/-- The square of the column norm: the strips side by side, times the scale twice, plus the cross term. -/
def cnSq (v6 : FVec F S1x512 .f32) (v8 v10 v13 : FVec F S32x512 .f32) (s0 s1 s2 s3 : FVec F S1x128 .f32) : FVec F S1x512 .f32 :=
  have v4946 : FVec F S1x512 .f32 := concatenate S1x512 1 [⟨S1x128, s0⟩, ⟨S1x128, s1⟩, ⟨S1x128, s2⟩, ⟨S1x128, s3⟩] concatenates_S1x128_S1x128_S1x128_S1x128_S1x512_d1
  have cst_800 : F .f32 := Scalar.ofBits .f32 0x3F800000#32
  have v4947 : FVec F S32x512 .f32 := broadcast S32x512 cst_800
  have v4948 : FVec F S32x512 .f32 := mulf v4947 v10
  have v4949 : FVec F S32x512 .f32 := broadcastTo S32x512 v6 broadcasts_S1x512_S32x512
  have v4950 : FVec F S32x512 .f32 := mulf v4948 v4949
  have cst_801 : F .f32 := Scalar.ofBits .f32 0x3E800000#32
  have v4951 : FVec F S32x512 .f32 := broadcast S32x512 cst_801
  have v4952 : FVec F S32x512 .f32 := mulf v4951 v13
  have v4953 : FVec F S32x512 .f32 := addf v4950 v4952
  have v4954 : FVec F S32x512 .f32 := mulf v8 v4953
  have v4955 : FVec F S512 .f32 := multiReduction .add [0] S512 v4954 0x00000000#32 reduces_S32x512_S512 (.inl rfl) rfl
  have v4956 : FVec F S1x512 .f32 := shapeCast S1x512 v4955 shapeCasts_S512_S1x512
  have v4957 : FVec F S1x512 .f32 := mulf v4946 v6
  have v4958 : FVec F S1x512 .f32 := mulf v4957 v6
  have v4959 : FVec F S1x512 .f32 := addf v4958 v4956
  v4959

theorem strip0_B (c : Dev nD) (arg2 : Memref sig .tc .vmem S3584x512 .fp8e4m3) (harg2 : arg2.IsWhole) (x1 : Vec F S3584x512 .fp8e4m3) :
    kernelRun0_B.sl.r_58 c arg2 harg2 x1 = strip (ldk arg2 harg2 x1 0 (inb_strip 0 (by decide))) := by
  sl_kernel_rfl
theorem strip1_B (c : Dev nD) (arg2 : Memref sig .tc .vmem S3584x512 .fp8e4m3) (harg2 : arg2.IsWhole) (x1 : Vec F S3584x512 .fp8e4m3) :
    kernelRun0_B.sl.r_115 c arg2 harg2 x1 = strip (ldk arg2 harg2 x1 128 (inb_strip 128 (by decide))) := by
  sl_kernel_rfl
theorem strip2_B (c : Dev nD) (arg2 : Memref sig .tc .vmem S3584x512 .fp8e4m3) (harg2 : arg2.IsWhole) (x1 : Vec F S3584x512 .fp8e4m3) :
    kernelRun0_B.sl.r_169 c arg2 harg2 x1 = strip (ldk arg2 harg2 x1 256 (inb_strip 256 (by decide))) := by
  sl_kernel_rfl
theorem strip0_A (c : Dev nD) (arg2 : Memref sig .tc .vmem S3584x512 .fp8e4m3) (harg2 : arg2.IsWhole) (x1 : Vec F S3584x512 .fp8e4m3) :
    kernelRun0_A.sl.r_64 c arg2 harg2 x1 = strip (ldk arg2 harg2 x1 0 (inb_strip 0 (by decide))) := by
  sl_kernel_rfl
theorem strip1_A (c : Dev nD) (arg2 : Memref sig .tc .vmem S3584x512 .fp8e4m3) (harg2 : arg2.IsWhole) (x1 : Vec F S3584x512 .fp8e4m3) :
    kernelRun0_A.sl.r_121 c arg2 harg2 x1 = strip (ldk arg2 harg2 x1 128 (inb_strip 128 (by decide))) := by
  sl_kernel_rfl
theorem strip2_A (c : Dev nD) (arg2 : Memref sig .tc .vmem S3584x512 .fp8e4m3) (harg2 : arg2.IsWhole) (x1 : Vec F S3584x512 .fp8e4m3) :
    kernelRun0_A.sl.r_175 c arg2 harg2 x1 = strip (ldk arg2 harg2 x1 256 (inb_strip 256 (by decide))) := by
  sl_kernel_rfl

theorem cnSq_B (c : Dev nD) (arg2 : Memref sig .tc .vmem S3584x512 .fp8e4m3) (harg2 : arg2.IsWhole) (arg3 : Memref sig .tc .vmem S1x512 .f32) (harg3 : arg3.IsWhole) (arg5 : Memref sig .tc .vmem S32x512 .bf16) (harg5 : arg5.IsWhole) (arg11 : Memref sig .tc .vmem S32x3584 .bf16) (harg11 : arg11.IsWhole) (arg13 : Memref sig .tc .vmem S32x96 .bf16) (harg13 : arg13.IsWhole) (x1 : Vec F S3584x512 .fp8e4m3) (x2 : Vec F S1x512 .f32) (x4 : Vec F S32x512 .bf16) (xs0 : Vec F S32x3584 .bf16) (xs2 : Vec F S32x96 .bf16) :
    kernelRun0_B.sl.r_224 c arg2 harg2 arg3 harg3 arg5 harg5 arg11 harg11 arg13 harg13 x1 x2 x4 xs0 xs2
      = cnSq (kernelRun0_B.sl.r_1 c arg3 harg3 x2) (kernelRun0_B.sl.r_3 c arg5 harg5 x4)
          (kernelRun0_B.sl.r_4 c arg2 harg2 arg11 harg11 x1 xs0) (kernelRun0_B.sl.r_5 c arg5 harg5 arg13 harg13 x4 xs2)
          (kernelRun0_B.sl.r_58 c arg2 harg2 x1) (kernelRun0_B.sl.r_115 c arg2 harg2 x1) (kernelRun0_B.sl.r_169 c arg2 harg2 x1)
          (strip (ldk arg2 harg2 x1 384 (inb_strip 384 (by decide)))) := by
  sl_kernel_rfl
theorem cnSq_A (c : Dev nD) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg11 : Memref sig .tc .vmem S32x3584 .bf16) (arg13 : Memref sig .tc .vmem S32x96 .bf16) (x1 : Vec F S3584x512 .fp8e4m3) (x2 : Vec F S1x512 .f32) (x3 : Vec F S3584x32 .bf16) (x4 : Vec F S32x512 .bf16) :
    kernelRun0_A.sl.r_230 c arg2 harg2 arg3 harg3 arg4 harg4 arg5 harg5 arg11 arg13 x1 x2 x3 x4
      = cnSq (kernelRun0_A.sl.r_7 c arg3 harg3 x2) (kernelRun0_A.sl.r_9 c arg5 harg5 x4)
          (kernelRun0_A.sl.r_10 c arg2 harg2 arg4 harg4 arg11 x1 x3) (kernelRun0_A.sl.r_11 c arg4 harg4 arg5 harg5 arg13 x3 x4)
          (kernelRun0_A.sl.r_64 c arg2 harg2 x1) (kernelRun0_A.sl.r_121 c arg2 harg2 x1) (kernelRun0_A.sl.r_175 c arg2 harg2 x1)
          (strip (ldk arg2 harg2 x1 384 (inb_strip 384 (by decide)))) := by
  sl_kernel_rfl

/-- The rows `32 j … 32 j + 31` of strip `o`, read off the block itself. -/
def blkL (x1 : Vec F S3584x512 .fp8e4m3) (o : ℕ) (ho : o + 128 ≤ 512) (j : ℕ) : Vec F S32x128 .fp8e4m3 := fun y =>
  x1 (ix2 ⟨32 * (j % 112) + (y 0).val, by have := Nat.mod_lt j (show 112 > 0 by omega); have : (y 0).val < 32 := (y 0).isLt; omega⟩
    ⟨o + (y 1).val, by have : (y 1).val < 128 := (y 1).isLt; omega⟩)

theorem ldk_eq (arg2 : Memref sig .tc .vmem S3584x512 .fp8e4m3) (harg2 : arg2.IsWhole) (x1 : Vec F S3584x512 .fp8e4m3) (o : ℕ) (ho : o + 128 ≤ 512) :
    ldk arg2 harg2 x1 o (inb_strip o ho) = blkL x1 o ho := by
  funext j y
  unfold ldk blkL
  rw [Memref.IsWhole.readAt_unread]
  refine congrArg x1 (funext fun a => Fin.ext ?_)
  fin_cases a
  · show 32 * (j % 112) + 1 * (y 0).val = _
    rw [one_mul]; rfl
  · show o + 1 * (y 1).val = _
    rw [one_mul]; rfl

/-- The square of the column norm, from the blocks and from `downᵀ` (`d`) and the split Gram matrix (`g`). -/
def SQ (x1 : Vec F S3584x512 .fp8e4m3) (x2 : Vec F S1x512 .f32) (x4 : Vec F S32x512 .bf16) (d : Vec F S32x3584 .bf16) (g : Vec F S32x96 .bf16) : FVec F S1x512 .f32 :=
  cnSq (k0_pay18 x2) (k0_pay19 x4) (k0_pay20 x1 d) (k0_pay21 x4 g) (strip (blkL x1 0 (by decide))) (strip (blkL x1 128 (by decide)))
    (strip (blkL x1 256 (by decide))) (strip (blkL x1 384 (by decide)))
/-- The column norm. -/
def CNV (x1 : Vec F S3584x512 .fp8e4m3) (x2 : Vec F S1x512 .f32) (x4 : Vec F S32x512 .bf16) (d : Vec F S32x3584 .bf16) (g : Vec F S32x96 .bf16) : FVec F S1x512 .f32 :=
  k0_pay253 (SQ x1 x2 x4 d g) (FloatOps.ofBits .f32 0#32)
/-- The product. -/
def YV (x1 : Vec F S3584x512 .fp8e4m3) (x2 : Vec F S1x512 .f32) (x4 : Vec F S32x512 .bf16) (x5 : Vec F S1x512 .f32) (codes : Vec F S256x3584 .fp8e4m3)
    (d : Vec F S32x3584 .bf16) (h : Vec F S256x32 .bf16) (g : Vec F S32x96 .bf16) (s : Vec F S256x128 .f32) : FVec F S2x128x512 .bf16 :=
  k0_pay1 (k0_pay18 x2) x4 (k0_pay254 (SQ x1 x2 x4 d g) (FloatOps.ofBits .f32 0#32) x5) (k0_pay255 (k0_pay17 x1) codes) h
    (constant S256x512 .f32 0x00000000#32) (View.ld s (Rect.unit (s := S256x128) ![0, 0] S256x1.size inb_S256x128_S256x1_0_0))
/-- The codes, the scratch scales, and the rest of what the first point computes. -/
def CODES (x0 : Vec F S2x128x3584 .bf16) : FVec F S256x3584 .fp8e4m3 :=
  k0_pay8 (k0_pay7 (k0_pay2 x0) (k0_pay3 x0) (k0_pay4 x0)) (FloatOps.ofBits .bf16 0xC3E0#16) (FloatOps.ofBits .bf16 0x43E0#16)
def SCALE (x0 : Vec F S2x128x3584 .bf16) : FVec F S256x128 .f32 := k0_pay6 (k0_pay3 x0) (k0_pay4 x0)

end Cert.KernelIdeal.Run
-- ==== Proof.Run.Open.lean ====
/- What each point leaves, as functions of the blocks it reads. -/
module

public import proofs.«01_k».proof.Proof.Run.Frame
public import proofs.«01_k».proof.Proof.Run.Strips
public import Idealize.ShloMosaic.Lib.Pipeline.ValueKit
public import Idealize.ShloMosaic.Lib.WholeRead
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A load of part of what one whole store left reads that part of the payload. -/
theorem readCov_ld {S : Shape} {e : EltTy} {κ : Kind} {sp : Space} (v : View sig κ sp S e) {off : Fin S.rank → Nat} (inb : ∀ a, off a + S.size a ≤ S.size a)
    (w : S.Idx → Elt F e) (h : ∀ a, off a = 0) (r : Rect S) :
    v.readCov [(⟨Rect.unit off S.size inb, w⟩ : View.Piece (Elt F) S e)] r.toLoadRect = View.ld w r := by
  rw [View.readCov_eq_canon', View.canon_cons_unit_lit inb w [] h]
section First

variable (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : cond0_0 i) (x0 : Vec F S2x128x3584 .bf16) (x1 : Vec F S3584x512 .fp8e4m3) (x2 : Vec F S1x512 .f32) (x3 : Vec F S3584x32 .bf16) (x4 : Vec F S32x512 .bf16) (x5 : Vec F S1x512 .f32)

theorem outA_8 : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = CODES x0 := by
  unfold out0_A_8
  rw [View.read_writes_junk_eq_canon]
  unfold kernelRun0_A
  dsimp only
  simp (disch := decide) only [kernelRun0_A.sl.H8_1, kernelRun0_A.sl.r_4, kernelRun0_A.sl.r, kernelRun0_A.sl.r_1, kernelRun0_A.sl.r_2, kernelRun0_A.sl.cst_839, kernelRun0_A.sl.cst_840, View.readAt_eq_ld, Memref.IsWhole.read_unread, View.ld_unit_lit, View.canon_cons_unit_lit, View.readCov_unit_lit]
  rfl
theorem outA_s0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay13 x3 := by
  unfold sout0_A_0
  rw [View.read_writes_junk_eq_canon]
  unfold kernelRun0_A
  dsimp only
  simp (disch := decide) only [kernelRun0_A.sl.HS0_1, View.readAt_eq_ld, Memref.IsWhole.read_unread, View.ld_unit_lit, View.canon_cons_unit_lit, View.readCov_unit_lit]
theorem outA_s1 : sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay14 (k0_pay2 x0) x3 := by
  unfold sout0_A_1
  rw [View.read_writes_junk_eq_canon]
  unfold kernelRun0_A
  dsimp only
  simp (disch := decide) only [kernelRun0_A.sl.HS1_1, kernelRun0_A.sl.r, View.readAt_eq_ld, Memref.IsWhole.read_unread, View.ld_unit_lit, View.canon_cons_unit_lit, View.readCov_unit_lit]
theorem outA_s2 : sout0_A_2 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay16 (k0_pay15 x3) := by
  unfold sout0_A_2
  rw [View.read_writes_junk_eq_canon]
  unfold kernelRun0_A
  dsimp only
  simp (disch := decide) only [kernelRun0_A.sl.HS2_1, kernelRun0_A.sl.r_5, View.readAt_eq_ld, Memref.IsWhole.read_unread, View.ld_unit_lit, View.canon_cons_unit_lit, View.readCov_unit_lit]
theorem outA_s3 : sout0_A_3 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay9 (SCALE x0) := by
  unfold sout0_A_3
  rw [View.read_writes_junk_eq_canon]
  unfold kernelRun0_A
  dsimp only
  simp (disch := decide) only [kernelRun0_A.sl.HS3_1, kernelRun0_A.sl.r_3, kernelRun0_A.sl.r_1, kernelRun0_A.sl.r_2, View.readAt_eq_ld, Memref.IsWhole.read_unread, View.ld_unit_lit, View.canon_cons_unit_lit, View.readCov_unit_lit]
  rfl
theorem outA_7 : out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = CNV x1 x2 x4 (k0_pay13 x3) (k0_pay16 (k0_pay15 x3)) := by
  unfold out0_A_7
  rw [View.read_writes_junk_eq_canon]
  unfold kernelRun0_A
  dsimp only
  simp (disch := decide) only [cnSq_A, strip0_A, strip1_A, strip2_A, ldk_eq, kernelRun0_A.sl.r_7, kernelRun0_A.sl.r_9, kernelRun0_A.sl.r_10, kernelRun0_A.sl.r_11, kernelRun0_A.sl.v9, kernelRun0_A.sl.v11, kernelRun0_A.sl.HS0_1, kernelRun0_A.sl.HS2_1, kernelRun0_A.sl.r_5, kernelRun0_A.sl.cst_803, View.readAt_eq_ld, Memref.IsWhole.read_unread, View.ld_unit_lit, View.canon_cons_unit_lit, View.readCov_unit_lit]
  rfl
theorem outA_6 : out0_A_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = YV x1 x2 x4 x5 (CODES x0) (k0_pay13 x3) (k0_pay14 (k0_pay2 x0) x3) (k0_pay16 (k0_pay15 x3)) (k0_pay9 (SCALE x0)) := by
  unfold out0_A_6
  rw [View.read_writes_junk_eq_canon]
  unfold kernelRun0_A
  dsimp only
  simp (disch := decide) only [cnSq_A, strip0_A, strip1_A, strip2_A, ldk_eq, readCov_ld, kernelRun0_A.sl.r_7, kernelRun0_A.sl.r_9, kernelRun0_A.sl.r_10, kernelRun0_A.sl.r_11, kernelRun0_A.sl.v9, kernelRun0_A.sl.v11, kernelRun0_A.sl.HS0_1, kernelRun0_A.sl.HS2_1, kernelRun0_A.sl.r_5, kernelRun0_A.sl.cst_803, kernelRun0_A.sl.r_231, kernelRun0_A.sl.r_232, kernelRun0_A.sl.r_6, kernelRun0_A.sl.r_8, kernelRun0_A.sl.v4967, kernelRun0_A.sl.v4970, kernelRun0_A.sl.v4972, kernelRun0_A.sl.cst_813, kernelRun0_A.sl.H8_1, kernelRun0_A.sl.r_4, kernelRun0_A.sl.r_3, kernelRun0_A.sl.r, kernelRun0_A.sl.r_1, kernelRun0_A.sl.r_2, kernelRun0_A.sl.cst_839, kernelRun0_A.sl.cst_840, kernelRun0_A.sl.HS1_1, kernelRun0_A.sl.HS3_1, View.readAt_eq_ld, Memref.IsWhole.read_unread, View.ld_unit_lit, View.canon_cons_unit_lit, View.readCov_unit_lit]
  exact congrArg (k0_pay1 _ _ _ _ _ _) (readCov_ld arg14.view inb_S256x128_S256x128_0_0 (k0_pay9 (SCALE x0)) (by decide) (Rect.unit (s := S256x128) ![0, 0] S256x1.size inb_S256x128_S256x1_0_0))

/-- The two rows of scales, one store each. -/
theorem outA_9 : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = View.canon [⟨Rect.unit (s := S2x128) ![1, 0] ![1, 128] inb_S2x128_S1x128_1_0, k0_pay11 (SCALE x0)⟩, ⟨Rect.unit (s := S2x128) ![0, 0] ![1, 128] inb_S2x128_S1x128_0_0, k0_pay10 (SCALE x0)⟩] := by
  unfold out0_A_9
  rw [View.read_writes_junk_eq_canon]
  unfold kernelRun0_A
  dsimp only
  simp (disch := decide) only [kernelRun0_A.sl.r_3, kernelRun0_A.sl.r_1, kernelRun0_A.sl.r_2, View.readAt_eq_ld, Memref.IsWhole.read_unread, View.ld_unit_lit, View.canon_cons_unit_lit, View.readCov_unit_lit]
  rfl

end First

section Later

variable (c : Dev nD) (i : grid0.Coords) (arg1 : Memref sig .tc .vmem S2x128x3584 .bf16) (harg1 : arg1.IsWhole) (arg2 : Memref sig .tc .vmem S3584x512 .fp8e4m3) (harg2 : arg2.IsWhole) (arg3 : Memref sig .tc .vmem S1x512 .f32) (harg3 : arg3.IsWhole) (arg4 : Memref sig .tc .vmem S3584x32 .bf16) (harg4 : arg4.IsWhole) (arg5 : Memref sig .tc .vmem S32x512 .bf16) (harg5 : arg5.IsWhole) (arg6 : Memref sig .tc .vmem S1x512 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S256x3584 .fp8e4m3) (harg9 : arg9.IsWhole) (arg10 : Memref sig .tc .vmem S2x128 .f32) (harg10 : arg10.IsWhole) (arg11 : Memref sig .tc .vmem S32x3584 .bf16) (harg11 : arg11.IsWhole) (arg12 : Memref sig .tc .vmem S256x32 .bf16) (harg12 : arg12.IsWhole) (arg13 : Memref sig .tc .vmem S32x96 .bf16) (harg13 : arg13.IsWhole) (arg14 : Memref sig .tc .vmem S256x128 .f32) (harg14 : arg14.IsWhole) (hc0 : ¬cond0_0 i) (x0 : Vec F S2x128x3584 .bf16) (x1 : Vec F S3584x512 .fp8e4m3) (x2 : Vec F S1x512 .f32) (x3 : Vec F S3584x32 .bf16) (x4 : Vec F S32x512 .bf16) (x5 : Vec F S1x512 .f32) (xo8 : Vec F S256x3584 .fp8e4m3) (xo9 : Vec F S2x128 .f32) (xs0 : Vec F S32x3584 .bf16) (xs1 : Vec F S256x32 .bf16) (xs2 : Vec F S32x96 .bf16) (xs3 : Vec F S256x128 .f32)

theorem outB_7 : out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3 = CNV x1 x2 x4 xs0 xs2 := by
  unfold out0_B_7
  rw [View.read_writes_junk_eq_canon]
  unfold kernelRun0_B
  dsimp only
  simp (disch := decide) only [cnSq_B, strip0_B, strip1_B, strip2_B, ldk_eq, kernelRun0_B.sl.r_1, kernelRun0_B.sl.r_3, kernelRun0_B.sl.r_4, kernelRun0_B.sl.r_5, kernelRun0_B.sl.cst_803, View.readAt_eq_ld, Memref.IsWhole.read_unread, View.ld_unit_lit, View.canon_cons_unit_lit, View.readCov_unit_lit]
  rfl
theorem outB_6 : out0_B_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xo8 xo9 xs0 xs1 xs2 xs3 = YV x1 x2 x4 x5 xo8 xs0 xs1 xs2 xs3 := by
  unfold out0_B_6
  rw [View.read_writes_junk_eq_canon]
  unfold kernelRun0_B
  dsimp only
  simp (disch := decide) only [cnSq_B, strip0_B, strip1_B, strip2_B, ldk_eq, readCov_ld, kernelRun0_B.sl.r_1, kernelRun0_B.sl.r_3, kernelRun0_B.sl.r_4, kernelRun0_B.sl.r_5, kernelRun0_B.sl.cst_803, kernelRun0_B.sl.r, kernelRun0_B.sl.r_2, kernelRun0_B.sl.r_225, kernelRun0_B.sl.r_226, kernelRun0_B.sl.r_227, kernelRun0_B.sl.cst_813, View.readAt_eq_ld, Memref.IsWhole.read_unread, View.ld_unit_lit, View.canon_cons_unit_lit, View.readCov_unit_lit]
  rfl

end Later

end Cert.KernelIdeal.Run
-- ==== Proof.Val.State.lean ====
/- What every point leaves: the product and the norm of its own blocks, and what the first point computed. -/
module

public import proofs.«01_k».proof.Proof.Run.Open
public import proofs.«01_k».proof.Proof.Run.Strips
public import Idealize.ShloMosaic.Lib.Pipeline.ValueKit
public import Idealize.ShloMosaic.Lib.WholeRead
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The two rows of scales as the first point stores them. -/
def XSC (x0 : Vec F S2x128x3584 .bf16) : Vec F S2x128 .f32 :=
  View.canon [⟨Rect.unit (s := S2x128) ![1, 0] ![1, 128] inb_S2x128_S1x128_1_0, k0_pay11 (SCALE x0)⟩, ⟨Rect.unit (s := S2x128) ![0, 0] ![1, 128] inb_S2x128_S1x128_0_0, k0_pay10 (SCALE x0)⟩]

/-- The first point's input and adapter blocks. -/
def B0 (c : Dev nD) : Vec F S2x128x3584 .bf16 := iblk m c 0 ⟨0, by decide +kernel⟩
def B3 (c : Dev nD) : Vec F S3584x32 .bf16 := iblk m c 3 ⟨0, by decide +kernel⟩

/-- What every point keeps from the first. -/
def KEEP (c : Dev nD) : Vec F S256x3584 .fp8e4m3 × Vec F S2x128 .f32 × Vec F S32x3584 .bf16 × Vec F S256x32 .bf16 × Vec F S32x96 .bf16 × Vec F S256x128 .f32 :=
  (CODES (B0 m c), XSC (B0 m c), k0_pay13 (B3 m c), k0_pay14 (k0_pay2 (B0 m c)) (B3 m c), k0_pay16 (k0_pay15 (B3 m c)), k0_pay9 (SCALE (B0 m c)))

/-- A point's product and norm. -/
def YB (c : Dev nD) (t : Fin cfg0.N) : Vec F S2x128x512 .bf16 :=
  YV (iblk m c 1 t) (iblk m c 2 t) (iblk m c 4 t) (iblk m c 5 t) (CODES (B0 m c)) (k0_pay13 (B3 m c)) (k0_pay14 (k0_pay2 (B0 m c)) (B3 m c)) (k0_pay16 (k0_pay15 (B3 m c))) (k0_pay9 (SCALE (B0 m c)))
def CB (c : Dev nD) (t : Fin cfg0.N) : Vec F S1x512 .f32 :=
  CNV (iblk m c 1 t) (iblk m c 2 t) (iblk m c 4 t) (k0_pay13 (B3 m c)) (k0_pay16 (k0_pay15 (B3 m c)))

theorem state_zero (c : Dev nD) (hn : 0 < cfg0.N) : outsAt0 m c 0 hn = (YB m c ⟨0, hn⟩, CB m c ⟨0, hn⟩, KEEP m c) := by
  show stA m c ⟨0, hn⟩ _ = _
  unfold stA
  rw [outA_6, outA_7, outA_8, outA_9, outA_s0, outA_s1, outA_s2, outA_s3]
  rfl

theorem state (c : Dev nD) : ∀ (n : ℕ) (hn : n < cfg0.N), outsAt0 m c n hn = (YB m c ⟨n, hn⟩, CB m c ⟨n, hn⟩, KEEP m c)
  | 0, hn => state_zero m c hn
  | n + 1, hn => by
    show stB m c ⟨n + 1, hn⟩ _ (outsAt0 m c n (Nat.lt_of_succ_lt hn)) = _
    rw [state c n (Nat.lt_of_succ_lt hn)]
    unfold stB
    rw [outB_6, outB_7]
    rfl

end Cert.KernelIdeal.Run
-- ==== Proof.Val.Algebra.lean ====
module
public import Idealize.ShloMosaic.Lib.Pointwise
@[expose] public section
noncomputable section

/-! The column norm's algebra: the kernel expands the square and sums its three parts apart; on finite weights that is
    the sum of squares the reference takes. Also the order in which the kernel sums a column's squares. -/
namespace Cert.Norm

open Idealize.ShloMosaic Finset

theorem range_tiles {M : Type} [AddCommMonoid M] (f : ℕ → M) (n k : ℕ) :
    ∑ d ∈ range (n * k), f d = ∑ i ∈ range n, ∑ j ∈ range k, f (k * i + j) := by
  induction n with
  | zero => simp
  | succ n ih => rw [Nat.succ_mul, sum_range_add, ih, sum_range_succ, mul_comm n k]

/-- A strip's order of summation: sixteen partial sums, each over 112 loads of 32 rows, two rows of each load. -/
theorem strip_order {M : Type} [AddCommMonoid M] (f : ℕ → M) :
    ∑ y ∈ range 16, ∑ i ∈ range 7, ∑ j ∈ range 16, (f (32 * (16 * i + j) + y) + f (32 * (16 * i + j) + (16 + y)))
      = ∑ d ∈ range 3584, f d := by
  rw [show 3584 = 112 * 32 from rfl, range_tiles f 112 32, show 112 = 7 * 16 from rfl,
    range_tiles (fun k => ∑ j ∈ range 32, f (32 * k + j)) 7 16, sum_comm]
  refine sum_congr rfl fun i _ => ?_
  rw [sum_comm]
  refine sum_congr rfl fun j _ => ?_
  rw [show 32 = 16 + 16 from rfl, sum_range_add, sum_add_distrib]

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

theorem quarter : Ideal.ofBits .f32 0x3E800000#32 = ((1 / 4 : ℝ) : EReal) := by
  show Ideal.ieee 8 23 (0x3E800000#32 : BitVec 32) = _
  unfold Ideal.ieee
  simp only [show 8 + 23 = 31 from rfl]
  rw [if_neg (by decide), if_neg (by decide)]
  refine congrArg Real.toEReal ?_
  rw [if_neg (by decide), show ((0x3E800000#32 : BitVec 32).extractLsb' 23 8).toNat = 125 from by decide,
    show ((0x3E800000#32 : BitVec 32).extractLsb' 0 23).toNat = 0 from by decide]
  norm_num

theorem half : Ideal.ofBits .f32 0x3F000000#32 = ((1 / 2 : ℝ) : EReal) := by
  show Ideal.ieee 8 23 (0x3F000000#32 : BitVec 32) = _
  unfold Ideal.ieee
  simp only [show 8 + 23 = 31 from rfl]
  rw [if_neg (by decide), if_neg (by decide)]
  refine congrArg Real.toEReal ?_
  rw [if_neg (by decide), show ((0x3F000000#32 : BitVec 32).extractLsb' 23 8).toNat = 126 from by decide,
    show ((0x3F000000#32 : BitVec 32).extractLsb' 0 23).toNat = 0 from by decide]
  norm_num

/-- The expansion on the reals. -/
theorem expand (w : Fin 3584 → ℝ) (s : ℝ) (dn : Fin 3584 → Fin 32 → ℝ) (u : Fin 32 → ℝ) :
    (∑ d, w d * w d) * s * s + ∑ r, u r * ((∑ d, dn d r * w d) * s + 1 / 4 * ∑ k, (∑ d, dn d r * dn d k) * u k)
      = ∑ d, (w d * s + 1 / 2 * ∑ r, dn d r * u r) * (w d * s + 1 / 2 * ∑ r, dn d r * u r) := by
  have e1 : ∀ r, (∑ d, dn d r * w d) * s + 1 / 4 * ∑ k, (∑ d, dn d r * dn d k) * u k
      = ∑ d, dn d r * (w d * s + 1 / 4 * ∑ k, dn d k * u k) := by
    intro r
    have : ∑ k, (∑ d, dn d r * dn d k) * u k = ∑ d, dn d r * ∑ k, dn d k * u k := by
      simp only [sum_mul]
      rw [sum_comm]
      refine sum_congr rfl fun d _ => ?_
      rw [mul_sum]
      exact sum_congr rfl fun k _ => by ring
    rw [this, sum_mul, mul_sum, ← sum_add_distrib]
    exact sum_congr rfl fun d _ => by ring
  have e2 : ∑ r, u r * ((∑ d, dn d r * w d) * s + 1 / 4 * ∑ k, (∑ d, dn d r * dn d k) * u k)
      = ∑ d, (∑ r, dn d r * u r) * (w d * s + 1 / 4 * ∑ k, dn d k * u k) := by
    rw [sum_congr rfl fun r _ => (congrArg (u r * ·) (e1 r)).trans (mul_sum _ _ _), sum_comm]
    refine sum_congr rfl fun d _ => ?_
    rw [sum_mul]
    refine sum_congr rfl fun r _ => ?_
    ring
  rw [e2, sum_mul, sum_mul, ← sum_add_distrib]
  refine sum_congr rfl fun d _ => ?_
  ring

/-- The kernel's column sum of squares, as it computes it; `g` is the Gram matrix of `down`. -/
def kern (w : Fin 3584 → EReal) (s : EReal) (dn : Fin 3584 → Fin 32 → EReal) (u : Fin 32 → EReal) : EReal :=
  (∑ d, w d * w d) * s * s + ∑ r, u r * (1 * (∑ d, dn d r * w d) * s + Ideal.ofBits .f32 0x3E800000#32 *
    ((∑ k, (∑ d, dn d r * dn d k) * u k) + (∑ k, ((∑ d, dn d r * dn d k) - ∑ d, dn d r * dn d k) * u k)
      + ∑ k, (((∑ d, dn d r * dn d k) - ∑ d, dn d r * dn d k) - ((∑ d, dn d r * dn d k) - ∑ d, dn d r * dn d k)) * u k))

/-- The reference's. -/
def refn (w : Fin 3584 → EReal) (s : EReal) (dn : Fin 3584 → Fin 32 → EReal) (u : Fin 32 → EReal) : EReal :=
  ∑ d, (w d * s + Ideal.ofBits .f32 0x3F000000#32 * ∑ r, dn d r * u r) * (w d * s + Ideal.ofBits .f32 0x3F000000#32 * ∑ r, dn d r * u r)

/-- On finite weights the two agree, and the maximum with zero changes nothing. -/
theorem kern_eq (w : Fin 3584 → EReal) (s : EReal) (dn : Fin 3584 → Fin 32 → EReal) (u : Fin 32 → EReal)
    (hw : ∀ d, ∃ r : ℝ, w d = r) (hs : ∃ r : ℝ, s = r) (hd : ∀ d k, ∃ r : ℝ, dn d k = r) (hu : ∀ k, ∃ r : ℝ, u k = r) :
    max (kern w s dn u) 0 = refn w s dn u := by
  choose w' hw using hw
  obtain ⟨s', rfl⟩ := hs
  choose dn' hd using hd
  choose u' hu using hu
  have key : refn w s' dn u = ((∑ d, (w' d * s' + 1 / 2 * ∑ r, dn' d r * u' r) * (w' d * s' + 1 / 2 * ∑ r, dn' d r * u' r) : ℝ) : EReal) := by
    unfold refn
    simp only [hw, hd, hu, half, ← EReal.coe_mul, ← EReal.coe_add, ← coe_sum]
  have hk : kern w s' dn u = refn w s' dn u := by
    rw [key, ← expand]
    unfold kern
    simp only [hw, hd, hu, quarter, ← EReal.coe_mul, ← EReal.coe_add, ← coe_sum, ← EReal.coe_sub, ← EReal.coe_one, sub_self, zero_mul,
      sum_const_zero, add_zero, one_mul]
  rw [hk, key]
  refine max_eq_left (EReal.coe_nonneg.2 ?_)
  exact sum_nonneg fun d _ => mul_self_nonneg _

end Cert.Norm
end
-- ==== Proof.Val.Exponent.lean ====
module
public import Idealize.ShloMosaic.Lib.Pointwise
@[expose] public section
noncomputable section

/-! The exponent the kernel finds by comparing with powers of two, and the exponent the reference reads off the
    logarithm: for a row whose `max|x| / 448` is zero or an ordinary normal number they are the same, and so are the
    scale `2^e` and its reciprocal. -/
namespace Cert.Quant

open Idealize.ShloMosaic

/-- The float whose bits are `k` in the exponent field and zero elsewhere. -/
def thr (k : BitVec 32) : EReal := FloatOps.ofBits (F := Ideal) .f32 (IntOp.shli .vector k 23#32)

theorem thr_bits : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem thr_eq (k : ℕ) (h1 : 1 ≤ k) (h : k ≤ 254) : thr (BitVec.ofNat 32 k) = (((2 : ℝ) ^ ((k : ℤ) - 127) : ℝ) : EReal) := by
  obtain ⟨a, b, c⟩ := thr_bits ⟨k, by omega⟩
  show Ideal.ieee 8 23 (IntOp.shli .vector (BitVec.ofNat 32 k) 23#32) = _
  unfold Ideal.ieee
  simp only [show 8 + 23 = 31 from rfl] at *
  rw [a, b, c]
  rw [if_neg (by omega), if_neg (by omega)]
  refine congrArg Real.toEReal ?_
  rw [if_neg (by decide), one_mul, Nat.add_zero, Nat.cast_pow, Nat.cast_ofNat, ← zpow_natCast, ← zpow_add₀ two_ne_zero]
  refine congrArg _ ?_; push_cast; ring

theorem thr_top : thr (BitVec.ofNat 32 255) = ⊤ := by
  obtain ⟨a, b, c⟩ := thr_bits ⟨255, by omega⟩
  show Ideal.ieee 8 23 (IntOp.shli .vector (BitVec.ofNat 32 255) 23#32) = _
  unfold Ideal.ieee
  simp only [show 8 + 23 = 31 from rfl] at *
  rw [a, b, c]
  rw [if_pos (by norm_num), if_pos rfl, if_neg (by decide)]

/-- One step of the search: keep `f` where `v` is below the power of two of field `f + s`, else take `f + s`. -/
def step (v : EReal) (f s : BitVec 32) : BitVec 32 :=
  Scalar.select (FloatOps.cmpf (F := Ideal) (φ := .f32) .olt v (thr (f + s))) f (f + s)
/-- The first five steps, and the last three. -/
def field5 (v : EReal) : BitVec 32 := step v (step v (step v (step v (step v 0#32 128#32) 64#32) 32#32) 16#32) 8#32
def field3 (v : EReal) (f : BitVec 32) : BitVec 32 := step v (step v (step v f 4#32) 2#32) 1#32
/-- The exponent of the scale, from the field. -/
def expo (f : BitVec 32) : BitVec 32 := Scalar.select (IntOp.cmpi .eq f 0#32) 0#32 (f - 126#32)

def nstep (K f s : ℕ) : ℕ := if f + s ≤ K then f + s else f
theorem nsearch : ∀ K : Fin 256, nstep K (nstep K (nstep K (nstep K (nstep K (nstep K (nstep K (nstep K 0 128) 64) 32) 16) 8) 4) 2) 1 = K.val := by decide +kernel
theorem nstep_le (K f s b : ℕ) (h : f ≤ b) : nstep K f s ≤ b + s := by unfold nstep; split <;> omega

theorem step_eq (v : EReal) (K f s : ℕ) (lo : ∀ j, 1 ≤ j → j ≤ K → thr (BitVec.ofNat 32 j) ≤ v)
    (hi : ∀ j, K < j → j ≤ 255 → v < thr (BitVec.ofNat 32 j)) (hs : 1 ≤ s) (hfs : f + s ≤ 255) :
    step v (BitVec.ofNat 32 f) (BitVec.ofNat 32 s) = BitVec.ofNat 32 (nstep K f s) := by
  unfold step nstep
  rw [← BitVec.ofNat_add]
  show (if BitVec.ofBool (decide (v < thr (BitVec.ofNat 32 (f + s)))) = 1#1 then _ else _) = _
  by_cases h : f + s ≤ K
  · rw [if_pos h, decide_eq_false (not_lt.mpr (lo _ (by omega) h)), if_neg (by decide)]
  · rw [if_neg h, decide_eq_true (hi _ (by omega) hfs), if_pos (by decide)]

theorem search (v : EReal) (K : ℕ) (hK : K ≤ 255) (lo : ∀ j, 1 ≤ j → j ≤ K → thr (BitVec.ofNat 32 j) ≤ v)
    (hi : ∀ j, K < j → j ≤ 255 → v < thr (BitVec.ofNat 32 j)) : field3 v (field5 v) = BitVec.ofNat 32 K := by
  unfold field3 field5
  have h1 := nstep_le K 0 128 0 le_rfl
  have h2 := nstep_le K _ 64 _ h1
  have h3 := nstep_le K _ 32 _ h2
  have h4 := nstep_le K _ 16 _ h3
  have h5 := nstep_le K _ 8 _ h4
  have h6 := nstep_le K _ 4 _ h5
  have h7 := nstep_le K _ 2 _ h6
  rw [show (0#32 : BitVec 32) = BitVec.ofNat 32 0 from rfl, show (128#32 : BitVec 32) = BitVec.ofNat 32 128 from rfl,
    step_eq v K 0 128 lo hi (by omega) (by omega), step_eq v K _ 64 lo hi (by omega) (by omega), step_eq v K _ 32 lo hi (by omega) (by omega),
    step_eq v K _ 16 lo hi (by omega) (by omega), step_eq v K _ 8 lo hi (by omega) (by omega), step_eq v K _ 4 lo hi (by omega) (by omega),
    step_eq v K _ 2 lo hi (by omega) (by omega), step_eq v K _ 1 lo hi (by omega) (by omega)]
  exact congrArg _ (nsearch ⟨K, by omega⟩)

/-- The kernel's exponent, its scale, and the scale's reciprocal. -/
def kexp (v : EReal) : BitVec 32 := expo (field3 v (field5 v))
def kscale (v : EReal) : EReal := thr (kexp v + 127#32)
def kinv (v : EReal) : EReal := thr (0#32 - kexp v + 127#32)

/-- The reference's exponent. -/
def rexp (a v : EReal) : EReal := if a = 0 then 0 else Ideal.liftRound Int.floor (Ideal.div (Ideal.log v) (Ideal.log 2)) + 1

/-- What the precondition says of a row: its maximum is zero, or `v` is an ordinary normal number. -/
def Tame (a v : EReal) : Prop := (a = 0 ∧ v = 0) ∨ (a ≠ 0 ∧ ∃ r : ℝ, v = r ∧ (2 : ℝ) ^ (-126 : ℤ) ≤ r ∧ r < (2 : ℝ) ^ (126 : ℤ))

theorem thr_pos (j : ℕ) (h1 : 1 ≤ j) (h : j ≤ 255) : (0 : EReal) < thr (BitVec.ofNat 32 j) := by
  rcases Nat.lt_or_ge j 255 with h' | h'
  · rw [thr_eq j h1 (by omega)]; exact EReal.coe_pos.mpr (zpow_pos two_pos _)
  · rw [show j = 255 by omega, thr_top]; exact EReal.zero_lt_top

theorem exp_bits : ∀ K : Fin 253, K.val ≠ 0 → expo (BitVec.ofNat 32 K.val) + 127#32 = BitVec.ofNat 32 (K.val + 1)
    ∧ 0#32 - expo (BitVec.ofNat 32 K.val) + 127#32 = BitVec.ofNat 32 (253 - K.val) := by decide +kernel

theorem exp2_coe (r : ℝ) : Ideal.exp2 (r : EReal) = ((Real.rpow 2 r : ℝ) : EReal) := rfl

theorem tame_zero : kscale 0 = 1 ∧ kinv 0 = 1 := by
  have hf : field3 0 (field5 0) = BitVec.ofNat 32 0 :=
    search 0 0 (by omega) (fun j h1 h2 => by omega) (fun j h1 h2 => thr_pos j h1 h2)
  have h : thr (BitVec.ofNat 32 127) = 1 := by rw [thr_eq 127 (by omega) (by omega)]; norm_num
  have he : expo (BitVec.ofNat 32 0) + 127#32 = BitVec.ofNat 32 127 := by decide +kernel
  have hi : 0#32 - expo (BitVec.ofNat 32 0) + 127#32 = BitVec.ofNat 32 127 := by decide +kernel
  exact ⟨by unfold kscale kexp; rw [hf, he, h], by unfold kinv kexp; rw [hf, hi, h]⟩

theorem tame_eq (a v : EReal) (h : Tame a v) :
    kscale v = Ideal.exp2 (rexp a v) ∧ kinv v = Ideal.exp2 (0 - rexp a v) ∧ ∃ s : ℝ, kscale v = s := by
  rcases h with ⟨ha, hv⟩ | ⟨ha, r, hv, hlo, hhi⟩
  · subst hv
    obtain ⟨h1, h2⟩ := tame_zero
    unfold rexp; rw [if_pos ha, h1, h2]
    have : Ideal.exp2 0 = 1 := by
      rw [show (0 : EReal) = ((0 : ℝ) : EReal) from rfl, exp2_coe]
      show ((((2 : ℝ) ^ (0 : ℝ) : ℝ)) : EReal) = 1
      rw [Real.rpow_zero]; rfl
    rw [sub_zero, this]; exact ⟨rfl, rfl, 1, rfl⟩
  · subst hv
    have hr : 0 < r := lt_of_lt_of_le (zpow_pos two_pos _) hlo
    have hl2 : 0 < Real.log 2 := Real.log_pos (by norm_num)
    set L : ℤ := ⌊Real.log r / Real.log 2⌋ with hL
    have hl1 : (2 : ℝ) ^ L ≤ r := by
      rw [← Real.rpow_intCast, Real.rpow_def_of_pos two_pos]
      calc Real.exp (Real.log 2 * L) ≤ Real.exp (Real.log r) := by
            apply Real.exp_le_exp.mpr
            have := Int.floor_le (Real.log r / Real.log 2)
            rw [le_div_iff₀ hl2] at this; linarith
        _ = r := Real.exp_log hr
    have hl2' : r < (2 : ℝ) ^ (L + 1) := by
      rw [← Real.rpow_intCast, Real.rpow_def_of_pos two_pos]
      calc r = Real.exp (Real.log r) := (Real.exp_log hr).symm
        _ < _ := by
            apply Real.exp_lt_exp.mpr
            have := Int.lt_floor_add_one (Real.log r / Real.log 2)
            rw [div_lt_iff₀ hl2] at this; push_cast; linarith
    have h2 : (1 : ℝ) < 2 := by norm_num
    have hLlo : -126 ≤ L := by
      have := (zpow_lt_zpow_iff_right₀ h2).mp (lt_of_le_of_lt hlo hl2'); omega
    have hLhi : L < 126 := (zpow_lt_zpow_iff_right₀ h2).mp (lt_of_le_of_lt hl1 hhi)
    obtain ⟨K, hK⟩ : ∃ K : ℕ, (K : ℤ) = L + 127 := ⟨(L + 127).toNat, Int.toNat_of_nonneg (by omega)⟩
    have hf : field3 (r : EReal) (field5 r) = BitVec.ofNat 32 K := by
      refine search r K (by omega) (fun j h1 h2' => ?_) (fun j h1 h2' => ?_)
      · rw [thr_eq j h1 (by omega)]
        exact EReal.coe_le_coe_iff.mpr (le_trans ((zpow_le_zpow_iff_right₀ h2).mpr (by omega)) hl1)
      · rcases Nat.lt_or_ge j 255 with h' | h'
        · rw [thr_eq j (by omega) (by omega)]
          exact EReal.coe_lt_coe_iff.mpr (lt_of_lt_of_le hl2' ((zpow_le_zpow_iff_right₀ h2).mpr (by omega)))
        · rw [show j = 255 by omega, thr_top]; exact EReal.coe_lt_top r
    obtain ⟨hb1, hb2⟩ := exp_bits ⟨K, by omega⟩ (by show K ≠ 0; omega)
    dsimp only at hb1 hb2
    have hE : rexp a r = ((((L + 1 : ℤ) : ℝ)) : EReal) := by
      unfold rexp; rw [if_neg ha]
      have e1 : Ideal.log (r : EReal) = ((Real.log r : ℝ) : EReal) := by
        show (if r ≤ 0 then (⊥ : EReal) else _) = _
        rw [if_neg (not_le.mpr hr)]
      have e2 : Ideal.log (2 : EReal) = ((Real.log 2 : ℝ) : EReal) := by
        show (if (2 : ℝ) ≤ 0 then (⊥ : EReal) else _) = _
        rw [if_neg (by norm_num)]; rfl
      rw [e1, e2]
      unfold Ideal.div
      rw [if_neg (by exact_mod_cast hl2.ne'), ← EReal.coe_inv, ← EReal.coe_mul, ← div_eq_mul_inv]
      show (((⌊Real.log r / Real.log 2⌋ : ℤ) : ℝ) : EReal) + 1 = _
      rw [← hL]; push_cast; rfl
    have hs : kscale (r : EReal) = (((2 : ℝ) ^ (L + 1) : ℝ) : EReal) := by
      unfold kscale kexp; rw [hf, hb1, thr_eq _ (by omega) (by omega)]
      congr 2; push_cast; omega
    have hi : kinv (r : EReal) = (((2 : ℝ) ^ (-(L + 1)) : ℝ) : EReal) := by
      unfold kinv kexp; rw [hf, hb2, thr_eq _ (by omega) (by omega)]
      congr 2; omega
    refine ⟨?_, ?_, _, hs⟩
    · rw [hs, hE, exp2_coe]
      congr 1
      exact (Real.rpow_intCast _ _).symm
    · rw [hi, hE, show (0 : EReal) - (((L + 1 : ℤ) : ℝ) : EReal) = (((-(L + 1) : ℤ) : ℝ) : EReal) by push_cast; rw [zero_sub], exp2_coe]
      congr 1
      exact (Real.rpow_intCast _ _).symm

end Cert.Quant
-- ==== Proof.Val.Pure.lean ====
/- What the kernel's named values are at an index, over the extended reals. -/
module

public import proofs.«01_k».proof.Proof.Run.Strips
public import proofs.«01_k».proof.Proof.Val.Algebra
public import proofs.«01_k».proof.Proof.Val.Exponent
public import Idealize.ShloMosaic.Lib.Pointwise

@[expose] public section

set_option maxRecDepth 16384

noncomputable section

namespace Cert.KernelIdeal.Pure

open Cert.KernelIdeal Cert.KernelIdeal.Gen Cert.KernelIdeal.Run
open Idealize.ShloMosaic Idealize.ShloMosaic.TcCoe Idealize.SL.Sem
open Finset

theorem sqlo_at (v : FVec Ideal S32x128 .fp8e4m3) (y : Fin 16) (c : Fin 128) :
    sqlo (F := Ideal) v (ix2 y c) = v (ix2 ⟨y.val, by omega⟩ c) * v (ix2 ⟨y.val, by omega⟩ c) := by
  pointwise [sqlo]
theorem sqhi_at (v : FVec Ideal S32x128 .fp8e4m3) (y : Fin 16) (c : Fin 128) :
    sqhi (F := Ideal) v (ix2 y c) = v (ix2 ⟨16 + y.val, by omega⟩ c) * v (ix2 ⟨16 + y.val, by omega⟩ c) := by
  pointwise [sqhi]

/-- The squares of one load's two rows at offset `y`, added. -/
def two (L : ℕ → FVec Ideal S32x128 .fp8e4m3) (y : Fin 16) (c : Fin 128) (j : ℕ) : EReal :=
  sqlo (F := Ideal) (L j) (ix2 y c) + sqhi (F := Ideal) (L j) (ix2 y c)

theorem chain_at (L : ℕ → FVec Ideal S32x128 .fp8e4m3) (b n : ℕ) (y : Fin 16) (c : Fin 128) :
    chain (F := Ideal) L b n (ix2 y c) = ∑ j ∈ range (n + 1), two L y c (b + j) := by
  induction n with
  | zero => simp only [zero_add, sum_range_one, add_zero]; rfl
  | succ n ih => rw [sum_range_succ, ← ih]; exact add_assoc _ _ _

theorem tot_at (L : ℕ → FVec Ideal S32x128 .fp8e4m3) (n : ℕ) (y : Fin 16) (c : Fin 128) :
    tot (F := Ideal) L n (ix2 y c) = ∑ i ∈ range (n + 1), ∑ j ∈ range 16, two L y c (16 * i + j) := by
  induction n with
  | zero => simp only [zero_add, sum_range_one]; exact (chain_at L 0 15 y c).trans (by simp only [mul_zero])
  | succ n ih => rw [sum_range_succ, ← ih, ← chain_at]; rfl

theorem strip_at (L : ℕ → FVec Ideal S32x128 .fp8e4m3) (z : Fin 1) (c : Fin 128) :
    strip (F := Ideal) L (ix2 z c) = ∑ y : Fin 16, tot (F := Ideal) L 6 (ix2 y c) := by
  unfold strip
  generalize tot (F := Ideal) L 6 = T
  pointwise

/-- A strip's column sum is the sum of the column's squares. -/
theorem strip_blkL (w : FVec Ideal S3584x512 .fp8e4m3) (o : ℕ) (ho : o + 128 ≤ 512) (z : Fin 1) (c : Fin 128) :
    strip (F := Ideal) (blkL w o ho) (ix2 z c)
      = ∑ d : Fin 3584, w (ix2 d ⟨o + c.val, by omega⟩) * w (ix2 d ⟨o + c.val, by omega⟩) := by
  let f : ℕ → EReal := fun d => if h : d < 3584 then w (ix2 ⟨d, h⟩ ⟨o + c.val, by omega⟩) * w (ix2 ⟨d, h⟩ ⟨o + c.val, by omega⟩) else 0
  have hf : ∑ d : Fin 3584, w (ix2 d ⟨o + c.val, by omega⟩) * w (ix2 d ⟨o + c.val, by omega⟩) = ∑ d ∈ range 3584, f d := by
    rw [← Fin.sum_univ_eq_sum_range f 3584]
    refine sum_congr rfl fun d _ => ?_
    simp only [f, dif_pos d.isLt]
  have hu : ∀ (g : ℕ → EReal), ∑ y : Fin 16, g y.val = ∑ y ∈ range 16, g y := fun g => Fin.sum_univ_eq_sum_range g 16
  rw [hf, strip_at, ← Cert.Norm.strip_order f, ← hu (fun y => ∑ i ∈ range 7, ∑ j ∈ range 16, (f (32 * (16 * i + j) + y) + f (32 * (16 * i + j) + (16 + y))))]
  refine sum_congr rfl fun y _ => ?_
  rw [tot_at]
  refine sum_congr rfl fun i hi => sum_congr rfl fun j hj => ?_
  have hi := mem_range.1 hi
  have hj := mem_range.1 hj
  unfold two
  rw [sqlo_at, sqhi_at]
  have hm : (16 * i + j) % 112 = 16 * i + j := Nat.mod_eq_of_lt (by omega)
  have e : ∀ (r : ℕ) (hr : r < 32) (h : 32 * (16 * i + j) + r < 3584), blkL (F := Ideal) w o ho (16 * i + j) (ix2 ⟨r, hr⟩ c)
      = w (ix2 ⟨32 * (16 * i + j) + r, h⟩ ⟨o + c.val, by omega⟩) := by
    intro r hr h
    unfold blkL
    refine congrArg w (congrArg₂ ix2 (Fin.ext ?_) rfl)
    show 32 * ((16 * i + j) % 112) + r = _
    rw [hm]
  rw [e _ _ (by omega), e _ _ (by omega)]
  simp only [f]
  rw [dif_pos (show 32 * (16 * i + j) + y.val < 3584 by omega), dif_pos (show 32 * (16 * i + j) + (16 + y.val) < 3584 by omega)]

end Cert.KernelIdeal.Pure
end
-- ==== Proof.Val.Pay.lean ====
/- What the kernel's named values are at an index, over the extended reals. -/
module

public import proofs.«01_k».proof.Proof.Val.Pure
public import proofs.«01_k».proof.Proof.Val.Algebra
public import proofs.«01_k».proof.Proof.Val.Exponent
public import Idealize.ShloMosaic.Lib.Pointwise

@[expose] public section

set_option maxRecDepth 16384

noncomputable section

namespace Cert.KernelIdeal.Pure

open Cert.KernelIdeal Cert.KernelIdeal.Gen Cert.KernelIdeal.Run
open Idealize.ShloMosaic Idealize.ShloMosaic.TcCoe Idealize.SL.Sem
open Finset

theorem t_at (x1 : FVec Ideal S3584x512 .fp8e4m3) (x3 : FVec Ideal S3584x32 .bf16) (r : Fin 32) (c : Fin 512) :
    k0_pay20 (F := Ideal) x1 (k0_pay13 (F := Ideal) x3) (ix2 r c) = ∑ d : Fin 3584, x3 (ix2 d r) * x1 (ix2 d c) := by
  pointwise [k0_pay20, k0_pay13, k0_pay12, k0_pay17]

/-- A sum over three pieces of 32 side by side. -/
theorem three (f0 f1 f2 g : Fin 32 → EReal) :
    (∑ x : Fin 96, (if h : x.val < 32 then f0 ⟨x.val, h⟩ else if h : x.val - 32 < 32 then f1 ⟨x.val - 32, h⟩ else f2 ⟨x.val - 32 - 32, by omega⟩)
        * (if h : x.val < 32 then g ⟨x.val, h⟩ else if h : x.val - 32 < 32 then g ⟨x.val - 32, h⟩ else g ⟨x.val - 32 - 32, by omega⟩))
      = (∑ k, f0 k * g k) + (∑ k, f1 k * g k) + ∑ k, f2 k * g k := by
  rw [Fin.sum_univ_tiles 3 32 rfl]
  rw [Fin.sum_univ_three]
  refine congrArg₂ (· + ·) (congrArg₂ (· + ·) ?_ ?_) ?_
  · refine sum_congr rfl fun k _ => ?_
    have a : 0 * 32 + k.val < 32 := by omega
    have b : (⟨0 * 32 + k.val, a⟩ : Fin 32) = k := Fin.ext (by simp)
    exact congrArg₂ (· * ·) ((dif_pos a).trans (congrArg f0 b)) ((dif_pos a).trans (congrArg g b))
  · refine sum_congr rfl fun k _ => ?_
    have a : ¬ 1 * 32 + k.val < 32 := by omega
    have a' : 1 * 32 + k.val - 32 < 32 := by omega
    have b : (⟨1 * 32 + k.val - 32, a'⟩ : Fin 32) = k := Fin.ext (by simp)
    exact congrArg₂ (· * ·) ((dif_neg a).trans ((dif_pos a').trans (congrArg f1 b))) ((dif_neg a).trans ((dif_pos a').trans (congrArg g b)))
  · refine sum_congr rfl fun k _ => ?_
    have a : ¬ 2 * 32 + k.val < 32 := by omega
    have a' : ¬ 2 * 32 + k.val - 32 < 32 := by omega
    have b : (⟨2 * 32 + k.val - 32 - 32, by omega⟩ : Fin 32) = k := Fin.ext (by simp only; omega)
    exact congrArg₂ (· * ·) ((dif_neg a).trans ((dif_neg a').trans (congrArg f2 b))) ((dif_neg a).trans ((dif_neg a').trans (congrArg g b)))

theorem gu_at (x4 : FVec Ideal S32x512 .bf16) (x3 : FVec Ideal S3584x32 .bf16) (r : Fin 32) (c : Fin 512) :
    k0_pay21 (F := Ideal) x4 (k0_pay16 (F := Ideal) (k0_pay15 (F := Ideal) x3)) (ix2 r c)
      = (∑ k : Fin 32, (∑ d, x3 (ix2 d r) * x3 (ix2 d k)) * x4 (ix2 k c))
        + (∑ k : Fin 32, ((∑ d, x3 (ix2 d r) * x3 (ix2 d k)) - ∑ d, x3 (ix2 d r) * x3 (ix2 d k)) * x4 (ix2 k c))
        + ∑ k : Fin 32, (((∑ d, x3 (ix2 d r) * x3 (ix2 d k)) - ∑ d, x3 (ix2 d r) * x3 (ix2 d k)) - ((∑ d, x3 (ix2 d r) * x3 (ix2 d k)) - ∑ d, x3 (ix2 d r) * x3 (ix2 d k))) * x4 (ix2 k c) := by
  pointwise [k0_pay21, k0_pay16, k0_pay15, k0_pay12]
  exact three (fun k => ∑ d, x3 (ix2 d r) * x3 (ix2 d k)) (fun k => (∑ d, x3 (ix2 d r) * x3 (ix2 d k)) - ∑ d, x3 (ix2 d r) * x3 (ix2 d k))
    (fun k => ((∑ d, x3 (ix2 d r) * x3 (ix2 d k)) - ∑ d, x3 (ix2 d r) * x3 (ix2 d k)) - ((∑ d, x3 (ix2 d r) * x3 (ix2 d k)) - ∑ d, x3 (ix2 d r) * x3 (ix2 d k))) (fun k => x4 (ix2 k c))

theorem cnSq_at (v6 : FVec Ideal S1x512 .f32) (v8 v10 v13 : FVec Ideal S32x512 .f32) (s0 s1 s2 s3 : FVec Ideal S1x128 .f32) (c : Fin 512) (q : EReal)
    (h0 : ∀ h : c.val < 128, s0 (ix2 0 ⟨c.val, h⟩) = q) (h1 : ∀ (l : 128 ≤ c.val) (h : c.val - 128 < 128), s1 (ix2 0 ⟨c.val - 128, h⟩) = q)
    (h2 : ∀ (l : 256 ≤ c.val) (h : c.val - 128 - 128 < 128), s2 (ix2 0 ⟨c.val - 128 - 128, h⟩) = q) (h3 : ∀ (l : 384 ≤ c.val) (h : c.val - 128 - 128 - 128 < 128), s3 (ix2 0 ⟨c.val - 128 - 128 - 128, h⟩) = q) :
    cnSq (F := Ideal) v6 v8 v10 v13 s0 s1 s2 s3 (ix2 0 c)
      = q * v6 (ix2 0 c) * v6 (ix2 0 c) + ∑ r : Fin 32, v8 (ix2 r c) * (1 * v10 (ix2 r c) * v6 (ix2 0 c) + Ideal.ofBits .f32 0x3E800000#32 * v13 (ix2 r c)) := by
  pointwise [cnSq]
  refine congrArg (fun e => e * v6 (ix2 0 c) * v6 (ix2 0 c) + _) ?_
  by_cases a0 : c.val < 128
  · rw [dif_pos a0]; exact h0 a0
  rw [dif_neg a0]
  by_cases a1 : c.val - 128 < 128
  · rw [dif_pos a1]; exact h1 (by omega) a1
  rw [dif_neg a1]
  by_cases a2 : c.val - 128 - 128 < 128
  · rw [dif_pos a2]; exact h2 (by omega) (by omega)
  rw [dif_neg a2]; exact h3 (by omega) (by omega)

theorem h_at (x0 : FVec Ideal S2x128x3584 .bf16) (x3 : FVec Ideal S3584x32 .bf16) (p : Fin 256) (r : Fin 32) :
    k0_pay14 (F := Ideal) (k0_pay2 (F := Ideal) x0) x3 (ix2 p r) = ∑ k : Fin 3584, x0 (ix3 ⟨p.val / 128, by omega⟩ ⟨p.val % 128, by omega⟩ k) * x3 (ix2 k r) := by
  pointwise [k0_pay14, k0_pay2]

/-- A row's largest magnitude. -/
def amax (x0 : FVec Ideal S2x128x3584 .bf16) (b : Fin 2) (q : Fin 128) : EReal :=
  Finset.univ.fold max (Ideal.ofBits .bf16 0xFF80#16) (fun k : Fin 3584 => FloatOps.absf (F := Ideal) (φ := .bf16) (x0 (ix3 b q k)))

theorem v_at (x0 : FVec Ideal S2x128x3584 .bf16) (p : Fin 256) (z : Fin 1) :
    k0_pay3 (F := Ideal) x0 (ix2 p z) = amax x0 ⟨p.val / 128, by omega⟩ ⟨p.val % 128, by omega⟩ * Ideal.ofBits .f32 0x3B124925#32 := by
  pointwise [k0_pay3, k0_pay2]
  rfl

theorem kexp_at (x0 : FVec Ideal S2x128x3584 .bf16) (i : S256x1.Idx) :
    k0_pay5 (F := Ideal) (k0_pay3 (F := Ideal) x0) (k0_pay4 (F := Ideal) x0) i = Cert.Quant.kexp (k0_pay3 (F := Ideal) x0 i) := by
  sl_kernel_rfl

theorem scale_at (v : FVec Ideal S256x1 .f32) (f : IVec S256x1 32) (p : Fin 256) (c : Fin 128) :
    k0_pay6 (F := Ideal) v f (ix2 p c) = Cert.Quant.thr (k0_pay5 (F := Ideal) v f (ix2 p 0) + 127#32) := by
  pointwise [k0_pay6]
  rfl

theorem codes_at (x : FVec Ideal S2x128x3584 .bf16) (v : FVec Ideal S256x1 .f32) (f : IVec S256x1 32) (p : Fin 256) (k : Fin 3584) (a b : EReal) :
    k0_pay8 (F := Ideal) (k0_pay7 (F := Ideal) (k0_pay2 (F := Ideal) x) v f) a b (ix2 p k)
      = min b (max a (x (ix3 ⟨p.val / 128, by omega⟩ ⟨p.val % 128, by omega⟩ k) * Cert.Quant.thr (0#32 - k0_pay5 (F := Ideal) v f (ix2 p 0) + 127#32))) := by
  pointwise [k0_pay8, k0_pay7, k0_pay2]
  rfl

theorem xs0_at (s : FVec Ideal S256x128 .f32) (z : Fin 1) (c : Fin 128) :
    k0_pay10 (F := Ideal) s (ix2 z c) = s (ix2 ⟨c.val, by omega⟩ 0) := by
  pointwise [k0_pay10]
theorem xs1_at (s : FVec Ideal S256x128 .f32) (z : Fin 1) (c : Fin 128) :
    k0_pay11 (F := Ideal) s (ix2 z c) = s (ix2 ⟨128 + c.val, by omega⟩ 0) := by
  pointwise [k0_pay11]

theorem y_at (v6 : FVec Ideal S1x512 .f32) (x4 : FVec Ideal S32x512 .bf16) (n : FVec Ideal S1x512 .f32) (x5 : FVec Ideal S1x512 .f32)
    (w : FVec Ideal S3584x512 .fp8e4m3) (codes : FVec Ideal S256x3584 .fp8e4m3) (h : FVec Ideal S256x32 .bf16) (s : FVec Ideal S256x1 .f32)
    (a : EReal) (b : Fin 2) (q : Fin 128) (c : Fin 512) :
    k0_pay1 (F := Ideal) v6 x4 (k0_pay254 (F := Ideal) n a x5) (k0_pay255 (F := Ideal) (k0_pay17 (F := Ideal) w) codes) h
      (constant (F := Ideal) S256x512 .f32 0x00000000#32) s (ix3 b q c)
      = ((∑ k : Fin 3584, codes (ix2 ⟨b.val * 128 + q.val, by omega⟩ k) * w (ix2 k c)) * s (ix2 ⟨b.val * 128 + q.val, by omega⟩ 0) * v6 (ix2 0 c)
        + Ideal.ofBits .f32 0x3F000000#32 * ∑ r : Fin 32, h (ix2 ⟨b.val * 128 + q.val, by omega⟩ r) * x4 (ix2 r c))
      * Ideal.div (x5 (ix2 0 c)) (Ideal.sqrt (max (n (ix2 0 c)) a)) := by
  pointwise [k0_pay1, k0_pay254, k0_pay253, k0_pay255, k0_pay17]

/-- The kernel's square of a column norm, at a column. -/
theorem SQ_at (x1 : FVec Ideal S3584x512 .fp8e4m3) (x2 : FVec Ideal S1x512 .f32) (x4 : FVec Ideal S32x512 .bf16) (x3 : FVec Ideal S3584x32 .bf16) (c : Fin 512) :
    SQ (F := Ideal) x1 x2 x4 (k0_pay13 (F := Ideal) x3) (k0_pay16 (F := Ideal) (k0_pay15 (F := Ideal) x3)) (ix2 0 c)
      = Cert.Norm.kern (fun d => x1 (ix2 d c)) (x2 (ix2 0 c)) (fun d r => x3 (ix2 d r)) (fun r => x4 (ix2 r c)) := by
  have s6 : k0_pay18 (F := Ideal) x2 (ix2 0 c) = x2 (ix2 0 c) := by pointwise [k0_pay18]
  have s8 : ∀ r : Fin 32, k0_pay19 (F := Ideal) x4 (ix2 r c) = x4 (ix2 r c) := fun r => by pointwise [k0_pay19]
  unfold SQ
  rw [cnSq_at _ _ _ _ _ _ _ _ c (∑ d : Fin 3584, x1 (ix2 d c) * x1 (ix2 d c))]
  · rw [s6]
    simp only [s8, t_at, gu_at]
    rfl
  all_goals intros; rw [strip_blkL]
  all_goals
    refine sum_congr rfl fun d _ => ?_
    have e : ∀ c' : Fin 512, c' = c → x1 (ix2 d c') * x1 (ix2 d c') = x1 (ix2 d c) * x1 (ix2 d c) := fun c' h => by rw [h]
    refine e _ (Fin.ext ?_)
    simp only
    omega

end Cert.KernelIdeal.Pure
end
-- ==== Proof.Val.Spec.lean ====
module

public import proofs.«01_k».proof.Proof.Val.Algebra
public import proofs.«01_k».proof.Proof.Val.Exponent

@[expose] public section

noncomputable section

/-! The four results as plain functions of the arrays. -/
namespace Cert.Spec

open Idealize.ShloMosaic

abbrev AX : Type := (⟨3, ![2, 128, 3584]⟩ : Shape).Idx → EReal
abbrev AW : Type := (⟨2, ![3584, 18944]⟩ : Shape).Idx → EReal
abbrev AN : Type := (⟨2, ![1, 18944]⟩ : Shape).Idx → EReal
abbrev AD : Type := (⟨2, ![3584, 32]⟩ : Shape).Idx → EReal
abbrev AU : Type := (⟨2, ![32, 18944]⟩ : Shape).Idx → EReal

/-- A row's largest magnitude, and that over the largest code. -/
def am (X : AX) (b : Fin 2) (q : Fin 128) : EReal :=
  Finset.univ.fold max (Ideal.ofBits .f32 0xFF800000#32) (fun k : Fin 3584 => FloatOps.absf (F := Ideal) (φ := .f32) (X (ix3 b q k)))
def vv (X : AX) (b : Fin 2) (q : Fin 128) : EReal := am X b q * Ideal.ofBits .f32 0x3B124925#32
/-- The row's exponent, scale and codes. -/
def ee (X : AX) (b : Fin 2) (q : Fin 128) : EReal := Cert.Quant.rexp (am X b q) (vv X b q)
def scl (X : AX) (b : Fin 2) (q : Fin 128) : EReal := Ideal.exp2 (ee X b q)
def code (X : AX) (b : Fin 2) (q : Fin 128) (k : Fin 3584) : EReal :=
  min (Ideal.ofBits .f32 0x43E00000#32) (max (Ideal.ofBits .f32 0xC3E00000#32) (X (ix3 b q k) * Ideal.exp2 (0 - ee X b q)))
/-- A column's norm. -/
def cn (W : AW) (S : AN) (D : AD) (U : AU) (c : Fin 18944) : EReal :=
  Ideal.sqrt (Cert.Norm.refn (fun d => W (ix2 d c)) (S (ix2 0 c)) (fun d r => D (ix2 d r)) (fun r => U (ix2 r c)))
/-- The product. -/
def yy (X : AX) (W : AW) (S : AN) (D : AD) (U : AU) (M : AN) (b : Fin 2) (q : Fin 128) (c : Fin 18944) : EReal :=
  ((∑ k : Fin 3584, code X b q k * W (ix2 k c)) * scl X b q * S (ix2 0 c)
    + Ideal.ofBits .f32 0x3F000000#32 * ∑ r : Fin 32, (∑ k : Fin 3584, X (ix3 b q k) * D (ix2 k r)) * U (ix2 r c))
    * Ideal.div (M (ix2 0 c)) (cn W S D U c)

/-- What the value claim needs of the inputs. -/
structure Good (X : AX) (W : AW) (S : AN) (D : AD) (U : AU) : Prop where
  tame : ∀ b q, Cert.Quant.Tame (am X b q) (vv X b q)
  w : ∀ d c, ∃ r : ℝ, W (ix2 d c) = r
  s : ∀ c, ∃ r : ℝ, S (ix2 0 c) = r
  d : ∀ k r, ∃ x : ℝ, D (ix2 k r) = x
  u : ∀ r c, ∃ x : ℝ, U (ix2 r c) = x

theorem lim_lo : Ideal.ofBits .bf16 0xC3E0#16 = Ideal.ofBits .f32 0xC3E00000#32 := by
  show Ideal.ieee 8 7 (0xC3E0#16 : BitVec 16) = Ideal.ieee 8 23 (0xC3E00000#32 : BitVec 32)
  unfold Ideal.ieee
  simp only [show 8 + 23 = 31 from rfl, show 8 + 7 = 15 from rfl]
  rw [if_neg (by decide), if_neg (by decide), if_pos (by decide), if_neg (by decide), if_neg (by decide), if_pos (by decide)]
  refine congrArg Real.toEReal ?_
  rw [show ((0xC3E00000#32 : BitVec 32).extractLsb' 23 8).toNat = 135 from by decide,
    show ((0xC3E00000#32 : BitVec 32).extractLsb' 0 23).toNat = 6291456 from by decide,
    show ((0xC3E0#16 : BitVec 16).extractLsb' 7 8).toNat = 135 from by decide,
    show ((0xC3E0#16 : BitVec 16).extractLsb' 0 7).toNat = 96 from by decide]
  norm_num
theorem lim_hi : Ideal.ofBits .bf16 0x43E0#16 = Ideal.ofBits .f32 0x43E00000#32 := by
  show Ideal.ieee 8 7 (0x43E0#16 : BitVec 16) = Ideal.ieee 8 23 (0x43E00000#32 : BitVec 32)
  unfold Ideal.ieee
  simp only [show 8 + 23 = 31 from rfl, show 8 + 7 = 15 from rfl]
  rw [if_neg (by decide), if_neg (by decide), if_neg (by decide), if_neg (by decide)]
  refine congrArg Real.toEReal ?_
  rw [if_neg (by decide), show ((0x43E00000#32 : BitVec 32).extractLsb' 23 8).toNat = 135 from by decide,
    show ((0x43E00000#32 : BitVec 32).extractLsb' 0 23).toNat = 6291456 from by decide,
    show ((0x43E0#16 : BitVec 16).extractLsb' 7 8).toNat = 135 from by decide,
    show ((0x43E0#16 : BitVec 16).extractLsb' 0 7).toNat = 96 from by decide]
  norm_num
theorem bot_bf16 : Ideal.ofBits .bf16 0xFF80#16 = ⊥ := by
  show Ideal.ieee 8 7 (0xFF80#16 : BitVec 16) = _
  unfold Ideal.ieee
  simp only [show 8 + 7 = 15 from rfl]
  rw [if_pos (by decide), if_pos (by decide), if_pos (by decide)]
theorem bot_f32 : Ideal.ofBits .f32 0xFF800000#32 = ⊥ := by
  show Ideal.ieee 8 23 (0xFF800000#32 : BitVec 32) = _
  unfold Ideal.ieee
  simp only [show 8 + 23 = 31 from rfl]
  rw [if_pos (by decide), if_pos (by decide), if_pos (by decide)]
theorem top_f32 : Ideal.ofBits .f32 0x7F800000#32 = ⊤ := by
  show Ideal.ieee 8 23 (0x7F800000#32 : BitVec 32) = _
  unfold Ideal.ieee
  simp only [show 8 + 23 = 31 from rfl]
  rw [if_pos (by decide), if_pos (by decide), if_neg (by decide)]
theorem two_f32 : Ideal.ofBits .f32 0x40000000#32 = 2 := by
  show Ideal.ieee 8 23 (0x40000000#32 : BitVec 32) = _
  unfold Ideal.ieee
  simp only [show 8 + 23 = 31 from rfl]
  rw [if_neg (by decide), if_neg (by decide)]
  rw [if_neg (by decide), show ((0x40000000#32 : BitVec 32).extractLsb' 23 8).toNat = 128 from by decide,
    show ((0x40000000#32 : BitVec 32).extractLsb' 0 23).toNat = 0 from by decide]
  norm_num
  rfl
theorem lo_f32 : Ideal.ofBits .f32 0x00800000#32 = (((2 : ℝ) ^ (-126 : ℤ) : ℝ) : EReal) := by
  show Ideal.ieee 8 23 (0x00800000#32 : BitVec 32) = _
  unfold Ideal.ieee
  simp only [show 8 + 23 = 31 from rfl]
  rw [if_neg (by decide), if_neg (by decide)]
  refine congrArg Real.toEReal ?_
  rw [if_neg (by decide), show ((0x00800000#32 : BitVec 32).extractLsb' 23 8).toNat = 1 from by decide,
    show ((0x00800000#32 : BitVec 32).extractLsb' 0 23).toNat = 0 from by decide]
  norm_num
theorem hi_f32 : Ideal.ofBits .f32 0x7E800000#32 = (((2 : ℝ) ^ (126 : ℤ) : ℝ) : EReal) := by
  show Ideal.ieee 8 23 (0x7E800000#32 : BitVec 32) = _
  unfold Ideal.ieee
  simp only [show 8 + 23 = 31 from rfl]
  rw [if_neg (by decide), if_neg (by decide)]
  refine congrArg Real.toEReal ?_
  rw [if_neg (by decide), show ((0x7E800000#32 : BitVec 32).extractLsb' 23 8).toNat = 253 from by decide,
    show ((0x7E800000#32 : BitVec 32).extractLsb' 0 23).toNat = 0 from by decide]
  norm_num

end Cert.Spec
end
-- ==== Proof.Val.Arr.lean ====
/- The kernel's four result arrays over the extended reals. -/
module

public import proofs.«01_k».proof.Proof.Val.State
public import proofs.«01_k».proof.Proof.Val.Pay
public import proofs.«01_k».proof.Proof.Val.Spec
public import proofs.«01_k».proof.Proof.Run.Strips
public import Idealize.ShloMosaic.Lib.Pipeline.ValueKit
public import Idealize.ShloMosaic.Lib.WholeRead
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Pure Cert.Spec Finset

theorem xsc_at (x0 : FVec Ideal S2x128x3584 .bf16) (b : Fin 2) (q : Fin 128) :
    XSC (F := Ideal) x0 (ix2 b q) = SCALE (F := Ideal) x0 (ix2 ⟨b.val * 128 + q.val, by omega⟩ 0) := by
  unfold XSC
  canon_tiles x h
  · have hb : b = 1 := Fin.ext (by have : b.val = 1 + (x 0).val := h0; have := b.isLt; show b.val = 1; omega)
    subst hb
    have hx : x = ix2 0 q := by
      funext a; fin_cases a
      · exact Fin.ext (Nat.lt_one_iff.1 x0_lt)
      · exact Fin.ext h1.symm
    subst hx
    rw [xs1_at]
    exact congrArg _ (congrArg₂ ix2 (Fin.ext (by show 128 + q.val = 1 * 128 + q.val; omega)) rfl)
  · have hb : b = 0 := Fin.ext (by have : b.val = (x 0).val := h0; show b.val = 0; omega)
    subst hb
    have hx : x = ix2 0 q := by
      funext a; fin_cases a
      · exact Fin.ext (Nat.lt_one_iff.1 x0_lt)
      · exact Fin.ext h1.symm
    subst hx
    rw [xs0_at]
    exact congrArg _ (congrArg₂ ix2 (Fin.ext (by show q.val = 0 * 128 + q.val; omega)) rfl)

variable (m : (ℓ : Loc nD τ sig) → Buf (Elt Ideal) ℓ)

theorem idx : ∀ t : Fin cfg0.N, win0_0.index t = ![0, 0, 0] ∧ win0_1.index t = ![0, t.val] ∧ win0_2.index t = ![0, t.val] ∧ win0_3.index t = ![0, 0]
    ∧ win0_4.index t = ![0, t.val] ∧ win0_5.index t = ![0, t.val] ∧ win0_6.index t = ![0, 0, t.val] ∧ win0_7.index t = ![0, t.val] ∧ win0_8.index t = ![0, 0] ∧ win0_9.index t = ![0, 0] :=
  (by decide +kernel : ∀ t : Fin grid0.N, _)

theorem i0_at (c : Dev nD) (t : Fin cfg0.N) (b : Fin 2) (q : Fin 128) (k : Fin 3584) :
    (iblk m c 0 t : S2x128x3584.Idx → EReal) (ix3 b q k) = V m c main_arg0 (ix3 b q k) := by
  blk_ext [iblk, idx t]
theorem i3_at (c : Dev nD) (t : Fin cfg0.N) (d : Fin 3584) (r : Fin 32) :
    (iblk m c 3 t : S3584x32.Idx → EReal) (ix2 d r) = V m c main_arg3 (ix2 d r) := by
  blk_ext [iblk, idx t]
theorem B0_at (c : Dev nD) (b : Fin 2) (q : Fin 128) (k : Fin 3584) : B0 m c (ix3 b q k) = V m c main_arg0 (ix3 b q k) := i0_at m c _ b q k
theorem B3_at (c : Dev nD) (d : Fin 3584) (r : Fin 32) : B3 m c (ix2 d r) = V m c main_arg3 (ix2 d r) := i3_at m c _ d r
theorem i1_at (c : Dev nD) (t : Fin cfg0.N) (d : Fin 3584) (x : Fin 512) (y : Fin 18944) (h : y.val = t.val * 512 + x.val) :
    (iblk m c 1 t : S3584x512.Idx → EReal) (ix2 d x) = V m c main_v0 (ix2 d y) := by
  blk_ext [iblk, idx t]
theorem i2_at (c : Dev nD) (t : Fin cfg0.N) (x : Fin 512) (y : Fin 18944) (h : y.val = t.val * 512 + x.val) :
    (iblk m c 2 t : S1x512.Idx → EReal) (ix2 0 x) = V m c main_v1 (ix2 0 y) := by
  blk_ext [iblk, idx t]
theorem i4_at (c : Dev nD) (t : Fin cfg0.N) (d : Fin 32) (x : Fin 512) (y : Fin 18944) (h : y.val = t.val * 512 + x.val) :
    (iblk m c 4 t : S32x512.Idx → EReal) (ix2 d x) = V m c main_arg4 (ix2 d y) := by
  blk_ext [iblk, idx t]
theorem i5_at (c : Dev nD) (t : Fin cfg0.N) (x : Fin 512) (y : Fin 18944) (h : y.val = t.val * 512 + x.val) :
    (iblk m c 5 t : S1x512.Idx → EReal) (ix2 0 x) = V m c main_v2 (ix2 0 y) := by
  blk_ext [iblk, idx t]

/-- The last point. -/
def tL : Fin cfg0.N := ⟨36, by decide +kernel⟩

/-- The arrays as the region finds them. -/
def aX (c : Dev nD) : AX := V m c main_arg0
def aW (c : Dev nD) : AW := V m c main_v0
def aS (c : Dev nD) : AN := V m c main_v1
def aD (c : Dev nD) : AD := V m c main_arg3
def aU (c : Dev nD) : AU := V m c main_arg4
def aM (c : Dev nD) : AN := V m c main_v2

theorem B0_eq (c : Dev nD) : B0 m c = aX m c := by
  funext j; idx_vars j; exact B0_at m c _ _ _
theorem B3_eq (c : Dev nD) : B3 m c = aD m c := by
  funext j; idx_vars j; exact B3_at m c _ _

theorem amax_eq (X : AX) (b : Fin 2) (q : Fin 128) : amax X b q = am X b q := by
  unfold amax am
  rw [bot_bf16, bot_f32]
  rfl

theorem scale_eq (X : AX) (hT : ∀ b q, Cert.Quant.Tame (am X b q) (vv X b q)) (b : Fin 2) (q : Fin 128) (l : Fin 128) :
    SCALE (F := Ideal) X (ix2 ⟨b.val * 128 + q.val, by omega⟩ l) = scl X b q := by
  unfold SCALE
  rw [scale_at, kexp_at, v_at, amax_eq]
  have e1 : (⟨(b.val * 128 + q.val) / 128, by omega⟩ : Fin 2) = b := Fin.ext (by show (b.val * 128 + q.val) / 128 = b.val; omega)
  have e2 : (⟨(b.val * 128 + q.val) % 128, by omega⟩ : Fin 128) = q := Fin.ext (by show (b.val * 128 + q.val) % 128 = q.val; omega)
  rw [e1, e2]
  exact (Cert.Quant.tame_eq _ _ (hT b q)).1

theorem codes_eq (X : AX) (hT : ∀ b q, Cert.Quant.Tame (am X b q) (vv X b q)) (b : Fin 2) (q : Fin 128) (k : Fin 3584) :
    CODES (F := Ideal) X (ix2 ⟨b.val * 128 + q.val, by omega⟩ k) = code X b q k := by
  unfold CODES
  rw [codes_at, kexp_at, v_at, amax_eq]
  have e1 : (⟨(b.val * 128 + q.val) / 128, by omega⟩ : Fin 2) = b := Fin.ext (by show (b.val * 128 + q.val) / 128 = b.val; omega)
  have e2 : (⟨(b.val * 128 + q.val) % 128, by omega⟩ : Fin 128) = q := Fin.ext (by show (b.val * 128 + q.val) % 128 = q.val; omega)
  rw [e1, e2]
  unfold code
  refine congrArg₂ min lim_hi (congrArg₂ max lim_lo (congrArg (X (ix3 b q k) * ·) ?_))
  exact (Cert.Quant.tame_eq _ _ (hT b q)).2.1

theorem CNV_at (x1 : FVec Ideal S3584x512 .fp8e4m3) (x2 : FVec Ideal S1x512 .f32) (x4 : FVec Ideal S32x512 .bf16) (d : FVec Ideal S32x3584 .bf16) (g : FVec Ideal S32x96 .bf16) (c : Fin 512) :
    CNV (F := Ideal) x1 x2 x4 d g (ix2 0 c) = Ideal.sqrt (max (SQ (F := Ideal) x1 x2 x4 d g (ix2 0 c)) 0) := by
  unfold CNV
  generalize SQ (F := Ideal) x1 x2 x4 d g = T
  have z : FloatOps.ofBits (F := Ideal) .f32 0#32 = (0 : EReal) := Ideal.ofBits_zero_f32
  rw [z]
  pointwise [k0_pay253]

theorem sq_eq (c : Dev nD) (H : Good (aX m c) (aW m c) (aS m c) (aD m c) (aU m c)) (t : Fin cfg0.N) (x : Fin 512) (y : Fin 18944) (h : y.val = t.val * 512 + x.val) :
    Ideal.sqrt (max (SQ (F := Ideal) (iblk m c 1 t) (iblk m c 2 t) (iblk m c 4 t) (k0_pay13 (F := Ideal) (B3 m c)) (k0_pay16 (F := Ideal) (k0_pay15 (F := Ideal) (B3 m c))) (ix2 0 x)) 0)
      = cn (aW m c) (aS m c) (aD m c) (aU m c) y := by
  rw [SQ_at, B3_eq]
  have e1 : (fun d : Fin 3584 => (iblk m c 1 t : S3584x512.Idx → EReal) (ix2 d x)) = fun d => aW m c (ix2 d y) := funext fun d => i1_at m c t d x y h
  have e2 : (iblk m c 2 t : S1x512.Idx → EReal) (ix2 0 x) = aS m c (ix2 0 y) := i2_at m c t x y h
  have e4 : (fun r : Fin 32 => (iblk m c 4 t : S32x512.Idx → EReal) (ix2 r x)) = fun r => aU m c (ix2 r y) := funext fun d => i4_at m c t d x y h
  refine (congrArg (fun e => Ideal.sqrt (max e 0)) (congr (congrArg₂ (fun a b => Cert.Norm.kern a b (fun d r => aD m c (ix2 d r))) e1 e2) e4)).trans ?_
  exact congrArg Ideal.sqrt (Cert.Norm.kern_eq _ _ _ _ (fun d => H.w d y) (H.s y) (fun d k => H.d d k) (fun k => H.u k y))

theorem CB_eq (c : Dev nD) (H : Good (aX m c) (aW m c) (aS m c) (aD m c) (aU m c)) (t : Fin cfg0.N) (x : Fin 512) (y : Fin 18944) (h : y.val = t.val * 512 + x.val) :
    CB m c t (ix2 0 x) = cn (aW m c) (aS m c) (aD m c) (aU m c) y := by
  unfold CB
  rw [CNV_at]
  exact sq_eq m c H t x y h

theorem YB_eq (c : Dev nD) (H : Good (aX m c) (aW m c) (aS m c) (aD m c) (aU m c)) (t : Fin cfg0.N) (b : Fin 2) (q : Fin 128) (x : Fin 512) (y : Fin 18944) (h : y.val = t.val * 512 + x.val) :
    YB m c t (ix3 b q x) = yy (aX m c) (aW m c) (aS m c) (aD m c) (aU m c) (aM m c) b q y := by
  unfold YB YV
  refine (y_at _ _ _ _ _ _ _ _ _ b q x).trans ?_
  have s6 : k0_pay18 (F := Ideal) (iblk m c 2 t) (ix2 0 x) = aS m c (ix2 0 y) := by
    refine Eq.trans ?_ (i2_at m c t x y h)
    generalize (iblk m c 2 t : S1x512.Idx → EReal) = v
    pointwise [k0_pay18]
  have z : FloatOps.ofBits (F := Ideal) .f32 0#32 = (0 : EReal) := Ideal.ofBits_zero_f32
  have hh : ∀ r : Fin 32, k0_pay14 (F := Ideal) (k0_pay2 (F := Ideal) (B0 m c)) (B3 m c) (ix2 ⟨b.val * 128 + q.val, by omega⟩ r)
      = ∑ k : Fin 3584, aX m c (ix3 b q k) * aD m c (ix2 k r) := by
    intro r
    rw [h_at, B0_eq, B3_eq]
    have e1 : (⟨(b.val * 128 + q.val) / 128, by omega⟩ : Fin 2) = b := Fin.ext (by show (b.val * 128 + q.val) / 128 = b.val; omega)
    have e2 : (⟨(b.val * 128 + q.val) % 128, by omega⟩ : Fin 128) = q := Fin.ext (by show (b.val * 128 + q.val) % 128 = q.val; omega)
    rw [e1, e2]
  unfold yy
  refine congrArg₂ (· * ·) (congrArg₂ (· + ·) (congrArg₂ (· * ·) (congrArg₂ (· * ·) (sum_congr rfl fun k _ => congrArg₂ (· * ·) ?_ ?_) ?_) s6)
    (congrArg (_ * ·) (sum_congr rfl fun r _ => congrArg₂ (· * ·) (hh r) ?_))) (congrArg₂ Ideal.div ?_ ?_)
  · rw [B0_eq]; exact codes_eq _ H.tame b q k
  · exact i1_at m c t k x y h
  · refine Eq.trans (b := SCALE (F := Ideal) (B0 m c) (ix2 ⟨b.val * 128 + q.val, by omega⟩ 0)) ?_ ?_
    · pointwise [k0_pay9]
    · rw [B0_eq]; exact scale_eq _ H.tame b q 0
  · exact i4_at m c t r x y h
  · exact i5_at m c t x y h
  · rw [z]; exact sq_eq m c H t x y h

variable (c : Dev nD) (H : Good (aX m c) (aW m c) (aS m c) (aD m c) (aU m c))
include H

theorem fin6 : (dats m 0 c).arrAt 6 cfg0.N = fun j : S2x128x18944.Idx => yy (aX m c) (aW m c) (aS m c) (aD m c) (aU m c) (aM m c) (j 0) (j 1) (j 2) := by
  refine (dats m 0 c).arrAt_eq_of_covers 6 _ (by decide +kernel) fun t hf y => ?_
  blk_simp
  rw [after0_6, state]
  idx_vars y
  have hN : t.val < 37 := lt_of_lt_of_eq t.isLt (show cfg0.N = 37 from N_0)
  have e : ((View.whole main_v3_0).slice (win0_6.rect t)).emb (ix3 y0 y1 y2) = ix3 y0 y1 (⟨t.val * 512 + y2.val, by omega⟩ : Fin 18944) := by
    blk_ext [idx t]
  rw [e]
  exact YB_eq m c H t y0 y1 y2 _ rfl

theorem fin7 : (dats m 0 c).arrAt 7 cfg0.N = fun j : S1x18944.Idx => cn (aW m c) (aS m c) (aD m c) (aU m c) (j 1) := by
  refine (dats m 0 c).arrAt_eq_of_covers 7 _ (by decide +kernel) fun t hf y => ?_
  blk_simp
  rw [after0_7, state]
  idx_vars y
  have hN : t.val < 37 := lt_of_lt_of_eq t.isLt (show cfg0.N = 37 from N_0)
  have e : ((View.whole main_v3_1).slice (win0_7.rect t)).emb (ix2 y0 y1) = ix2 0 (⟨t.val * 512 + y1.val, by omega⟩ : Fin 18944) := by
    blk_ext [idx t]
  rw [e]
  have e0 : y0 = 0 := Fin.ext (by omega)
  subst e0
  exact CB_eq m c H t y1 _ rfl

theorem fin8 : (dats m 0 c).arrAt 8 cfg0.N = fun j : S256x3584.Idx => code (aX m c) ⟨(j 0).val / 128, by have : (j 0).val < 256 := (j 0).isLt; omega⟩ ⟨(j 0).val % 128, by omega⟩ (j 1) := by
  refine (dats m 0 c).arrAt_eq_of_after_last 8 tL (by decide +kernel) _ fun j => ?_
  blk_simp
  rw [after0_8, state]
  idx_vars j
  show CODES (B0 m c) (ix2 j0 j1) = code (aX m c) ⟨j0.val / 128, _⟩ ⟨j0.val % 128, _⟩ j1
  rw [B0_eq, ← codes_eq _ H.tame]
  exact congrArg _ (congrArg₂ ix2 (Fin.ext (by show j0.val = j0.val / 128 * 128 + j0.val % 128; omega)) rfl)

theorem fin9 : (dats m 0 c).arrAt 9 cfg0.N = fun j : S2x128.Idx => scl (aX m c) (j 0) (j 1) := by
  refine (dats m 0 c).arrAt_eq_of_after_last 9 tL (by decide +kernel) _ fun j => ?_
  blk_simp
  rw [after0_9, state]
  idx_vars j
  show XSC (B0 m c) (ix2 j0 j1) = scl (aX m c) j0 j1
  rw [B0_eq, xsc_at]
  exact scale_eq _ H.tame j0 j1 0

end Cert.KernelIdeal.Run
-- ==== Proof.Val.PreFacts.lean ====
/- What the precondition says of the arguments. -/
module

public import proofs.«01_k».proof.Pre_tame
public import proofs.«01_k».proof.Proof.Val.Spec
public import Idealize.ShloMosaic.Lib.Pointwise
public import Idealize.ShloMosaic.Lib.ReduceAll

@[expose] public section

set_option maxRecDepth 16384

noncomputable section

namespace Cert.Pre_tame

open Idealize.ShloMosaic Cert.Spec

theorem facts : Cert.Pre_tame.Facts where
  natLt_8_32 := by decide
  bcast_S_S3584x18944 := by decide
  reducesTo_S3584x18944_S_d0_1 := by decide
  h_S_ := by decide
  bcast_S_S18944 := by decide
  reducesTo_S18944_S_d0 := by decide
  bitsLt_bf16_f32 := by decide
  bcast_S_S3584x32 := by decide
  reducesTo_S3584x32_S_d0_1 := by decide
  bcast_S_S32x18944 := by decide
  reducesTo_S32x18944_S_d0_1 := by decide
  reducesTo_S2x128x3584_S2x128_d2 := by decide
  bcast_S_S2x128 := by decide
  reducesTo_S2x128_S_d0_1 := by decide

theorem and1 {s : Shape} (a b : IVec s 1) (j : s.Idx) (e : andi a b j = 1#1) : a j = 1#1 ∧ b j = 1#1 := by
  have e : a j &&& b j = 1#1 := e
  revert e; generalize a j = x; generalize b j = y; revert x y; decide
theorem or1 {s : Shape} (a b : IVec s 1) (j : s.Idx) (e : ori a b j = 1#1) : a j = 1#1 ∨ b j = 1#1 := by
  have e : a j ||| b j = 1#1 := e
  revert e; generalize a j = x; generalize b j = y; revert x y; decide

theorem ofBool1 {p : Prop} [Decidable p] (e : BitVec.ofBool (decide p) = 1#1) : p := by
  by_contra h
  rw [decide_eq_false h] at e
  exact absurd e (by decide)

theorem ne1 (a b : BitVec 32) (h : IntOp.cmpi .ne a b = 1#1) : a ≠ b := by
  intro e
  rw [e] at h
  revert h
  simp [IntOp.cmpi]

theorem finite (x : EReal) (h : FloatOps.cmpf (F := Ideal) (φ := .f32) .olt (max x (-x)) (Ideal.ofBits .f32 0x7F800000#32) = 1#1) : ∃ r : ℝ, x = r := by
  have h : max x (-x) < Ideal.ofBits .f32 0x7F800000#32 := ofBool1 h
  rw [top_f32] at h
  have h1 : x ≠ ⊤ := fun e => by rw [e] at h; exact absurd h (by simp)
  have h2 : x ≠ ⊥ := fun e => by rw [e] at h; exact absurd h (by simp)
  exact ⟨x.toReal, (EReal.coe_toReal h1 h2).symm⟩

theorem tame_gen (v : EReal) (l h : ℝ) (a1 : (l : EReal) ≤ v) (a2 : v < (h : EReal)) : ∃ r : ℝ, v = r ∧ l ≤ r ∧ r < h := by
  have n1 : v ≠ ⊤ := fun e => by rw [e] at a2; exact absurd a2 (not_lt.2 le_top)
  have n2 : v ≠ ⊥ := fun e => by rw [e] at a1; exact absurd a1 (not_le.2 (EReal.bot_lt_coe _))
  have e : ((v.toReal : ℝ) : EReal) = v := EReal.coe_toReal n1 n2
  rw [← e] at a1 a2
  exact ⟨v.toReal, e.symm, EReal.coe_le_coe_iff.1 a1, EReal.coe_lt_coe_iff.1 a2⟩

/-- What the row test says of one row: its largest magnitude is zero, or its scale is a normal number of middling size. -/
theorem row (R : FVec Ideal S2x128 .f32) (H : S_.BroadcastsInDim S2x128 (![] : Fin 0 → Fin S2x128.rank)) (j : S2x128.Idx)
    (a : ori (cmpf (F := Ideal) .oeq R (broadcastInDim S2x128 ![] H (constant (F := Ideal) S_ .f32 0x00000000#32)))
      (andi (cmpf (F := Ideal) .oge (mulf R (broadcastInDim S2x128 ![] H (constant (F := Ideal) S_ .f32 0x3B124925#32))) (broadcastInDim S2x128 ![] H (constant (F := Ideal) S_ .f32 0x00800000#32)))
        (cmpf (F := Ideal) .olt (mulf R (broadcastInDim S2x128 ![] H (constant (F := Ideal) S_ .f32 0x3B124925#32))) (broadcastInDim S2x128 ![] H (constant (F := Ideal) S_ .f32 0x7E800000#32)))) j = 1#1)
    (k v : EReal) (hk : R j = k) (hv : k * Ideal.ofBits .f32 0x3B124925#32 = v) : Cert.Quant.Tame k v := by
  have z : Ideal.ofBits .f32 0x00000000#32 = (0 : EReal) := Ideal.ofBits_zero_f32
  by_cases h0 : k = 0
  · exact .inl ⟨h0, by rw [← hv, h0, zero_mul]⟩
  · rcases or1 _ _ _ a with a | a
    · have a : BitVec.ofBool (decide ((R j : EReal) = Ideal.ofBits .f32 0x00000000#32)) = 1#1 := a
      have a := ofBool1 a
      rw [hk, z] at a
      exact absurd a h0
    · obtain ⟨a1, a2⟩ := and1 _ _ _ a
      have a1 : BitVec.ofBool (decide (Ideal.ofBits .f32 0x00800000#32 ≤ (R j : EReal) * Ideal.ofBits .f32 0x3B124925#32)) = 1#1 := a1
      have a2 : BitVec.ofBool (decide ((R j : EReal) * Ideal.ofBits .f32 0x3B124925#32 < Ideal.ofBits .f32 0x7E800000#32)) = 1#1 := a2
      have a1 := ofBool1 a1
      have a2 := ofBool1 a2
      rw [hk, hv, lo_f32] at a1
      rw [hk, hv, hi_f32] at a2
      exact .inr ⟨h0, tame_gen v _ _ a1 a2⟩

variable [Facts]
open Facts

theorem read (x0 : FVec Ideal S2x128x3584 .bf16) (x1 : IVec S3584x18944 8) (x2 : FVec Ideal S18944 .f32) (x3 : FVec Ideal S3584x32 .bf16)
    (x4 : FVec Ideal S32x18944 .bf16) (x5 : FVec Ideal S18944 .f32) (h : fn (F := Ideal) x0 x1 x2 x3 x4 x5 = fun _ => 1#1) :
    (∀ i, (x1 i).setWidth 32 ≠ 127#32 ∧ (x1 i).setWidth 32 ≠ 255#32) ∧ (∀ i, ∃ r : ℝ, (x2 i : EReal) = r) ∧ (∀ i, ∃ r : ℝ, (x3 i : EReal) = r) ∧ (∀ i, ∃ r : ℝ, (x4 i : EReal) = r)
      ∧ ∀ b q, Cert.Quant.Tame (am x0 b q) (vv x0 b q) := by
  have : Subsingleton S_.Idx := ⟨fun a b => funext fun i => i.elim0⟩
  have e := congrFun h (fun i => i.elim0)
  unfold fn fn_part1 fn_part2 at e
  dsimp only at e
  obtain ⟨e, e6⟩ := and1 _ _ _ e
  obtain ⟨e, e5⟩ := and1 _ _ _ e
  obtain ⟨e, e4⟩ := and1 _ _ _ e
  obtain ⟨e, e3⟩ := and1 _ _ _ e
  obtain ⟨e1, e2⟩ := and1 _ _ _ e
  refine ⟨fun i => ⟨?_, ?_⟩, fun i => ?_, fun i => ?_, fun i => ?_, fun b q => ?_⟩
  · have a := Host.reduce_andi_all _ _ _ _ _ e1 i
    exact ne1 _ _ a
  · have a := Host.reduce_andi_all _ _ _ _ _ e2 i
    exact ne1 _ _ a
  · have a := Host.reduce_andi_all _ _ _ _ _ e3 i
    exact finite _ a
  · have a := Host.reduce_andi_all _ _ _ _ _ e4 i
    exact finite _ a
  · have a := Host.reduce_andi_all _ _ _ _ _ e5 i
    exact finite _ a
  · have a := Host.reduce_andi_all _ _ _ _ _ e6 (ix2 b q)
    refine row _ _ (ix2 b q) a _ _ ?_ rfl
    pointwise
    rfl

/-- A code that is not one of the two NaN codes is a real. -/
theorem code_finite (w : BitVec 8) (h : w.setWidth 32 ≠ 127#32 ∧ w.setWidth 32 ≠ 255#32) : ∃ r : ℝ, FloatOps.ofBits (F := Ideal) .fp8e4m3 w = (r : EReal) := by
  show ∃ r : ℝ, Ideal.e4m3fn w = (r : EReal)
  unfold Ideal.e4m3fn
  dsimp only
  have hn : ¬((BitVec.extractLsb' 3 4 w).toNat = 15 ∧ (BitVec.extractLsb' 0 3 w).toNat = 7) := by
    revert h; revert w; decide
  rw [if_neg hn]
  split
  · exact ⟨_, rfl⟩
  · exact ⟨_, rfl⟩

end Cert.Pre_tame
end
-- ==== Proof.Val.Args.lean ====
/- The kernel's arrays in terms of its arguments, and its run. -/
module

public import proofs.«01_k».proof.Proof.Val.Arr
public import proofs.«01_k».proof.Proof.Val.PreFacts
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic Idealize.SL.Sem
open Cert.Spec

variable (m : (ℓ : Loc nD τ sig) → Buf (Elt Ideal) ℓ) (ρ : Dev nD → PrngReg) (c : Dev nD)

theorem aX_eq : aX m c = m ((c : Thread nD τ).loc main_arg0) := V_main_arg0 m c
theorem aD_eq : aD m c = m ((c : Thread nD τ).loc main_arg3) := V_main_arg3 m c
theorem aU_eq : aU m c = m ((c : Thread nD τ).loc main_arg4) := V_main_arg4 m c
theorem aW_eq : aW m c = (bitcastToFloat (F := Ideal) .fp8e4m3 (m ((c : Thread nD τ).loc main_arg1) : IVec S3584x18944 8) : FVec Ideal S3584x18944 .fp8e4m3) := by
  unfold aW
  entry_read
  try rfl
theorem aS_eq : aS m c = (shapeCast S1x18944 (m ((c : Thread nD τ).loc main_arg2) : Vec Ideal S18944 .f32) shapeCasts_S18944_S1x18944 : Vec Ideal S1x18944 .f32) := by
  unfold aS
  entry_read
  try rfl
theorem aM_eq : aM m c = (shapeCast S1x18944 (m ((c : Thread nD τ).loc main_arg5) : Vec Ideal S18944 .f32) shapeCasts_S18944_S1x18944 : Vec Ideal S1x18944 .f32) := by
  unfold aM
  entry_read
  try rfl

/-- The kernel's run: its four results are what the pipeline leaves in its output arrays, and its arguments are kept. -/
theorem run_blocks : θ_run defs (onTc (τ := τ) (main (F := Ideal))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_v3_2) = (dats m 0 c).arrAt 8 cfg0.N
      ∧ r.2.mem ((c : Thread nD τ).loc main_v3_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h.1 c).1 6, (h.1 c).1 7, (h.1 c).1 8, (h.1 c).1 9, h.2 c⟩)
    (θ_run_and (run_main m ρ) (unchanged m ρ))

/-- The arguments the precondition allows are the ones the value proof needs. -/
theorem good [Cert.Pre_tame.Facts] (h : Cert.Pre_tame.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) = fun _ => 1#1) :
    Good (aX m c) (aW m c) (aS m c) (aD m c) (aU m c) := by
  obtain ⟨h1, h2, h3, h4, h0⟩ := Cert.Pre_tame.read _ _ _ _ _ _ h
  refine ⟨fun b q => ?_, fun d k => ?_, fun k => ?_, fun k r => ?_, fun r k => ?_⟩
  · rw [aX_eq]; exact h0 b q
  · rw [aW_eq]; exact Cert.Pre_tame.code_finite _ (h1 (ix2 d k))
  · rw [aS_eq]; exact h2 _
  · rw [aD_eq]; exact h3 _
  · rw [aU_eq]; exact h4 _

end Cert.KernelIdeal.Run
end
-- ==== Proof.Val.RefPay.lean ====
/- The reference's named values at an index, over the extended reals. -/
module

public import proofs.«01_k».proof.Proof.Gen.ReferenceIdeal.Frame
public import proofs.«01_k».proof.Proof.Val.Spec
public import Idealize.ShloMosaic.Lib.Pipeline.ValueKit
public import Idealize.ShloMosaic.Lib.Pointwise

@[expose] public section

set_option maxRecDepth 16384

noncomputable section

namespace Cert.ReferenceIdeal.Pure

open Cert.ReferenceIdeal Cert.ReferenceIdeal.Gen
open Idealize.ShloMosaic Idealize.ShloMosaic.TcCoe Idealize.SL.Sem
open Idealize.ShloMosaic.Pipeline (Dat)
open Cert.Spec Finset

theorem amax_at (x0 : FVec Ideal S2x128x3584 .bf16) (b : Fin 2) (q : Fin 128) :
    k0_pay11 (F := Ideal) x0 (ix2 b q) = am x0 b q := by
  pointwise [k0_pay11, k0_pay10]
  rfl

theorem e_at (x0 : FVec Ideal S2x128x3584 .bf16) (b : Fin 2) (q : Fin 128) :
    k0_pay1 (F := Ideal) (k0_pay12 (F := Ideal) x0) (k0_pay13 (F := Ideal) x0) (FloatOps.ofBits .f32 0x00000000#32) (ix2 b q) = ee x0 b q := by
  have z : FloatOps.ofBits (F := Ideal) .f32 0#32 = (0 : EReal) := Ideal.ofBits_zero_f32
  rw [z]
  pointwise [k0_pay1, k0_pay12, k0_pay13]
  rw [amax_at, two_f32]
  rfl

theorem codes_at (x : FVec Ideal S2x128x3584 .f32) (v : IVec S2x128 1) (f : FVec Ideal S2x128 .f32) (z : EReal) (p : Fin 256) (k : Fin 3584) :
    k0_pay4 (F := Ideal) x v f z (ix2 p k) = min (Ideal.ofBits .f32 0x43E00000#32) (max (Ideal.ofBits .f32 0xC3E00000#32)
      (x (ix3 ⟨p.val / 128, by omega⟩ ⟨p.val % 128, by omega⟩ k) * Ideal.exp2 (0 - k0_pay1 (F := Ideal) v f z (ix2 ⟨p.val / 128, by omega⟩ ⟨p.val % 128, by omega⟩)))) := by
  pointwise [k0_pay4, k0_pay3]
  rfl

theorem cn_at (w : FVec Ideal S3584x18944 .fp8e4m3) (d : FVec Ideal S3584x32 .bf16) (u : FVec Ideal S32x18944 .bf16) (s : FVec Ideal S1x18944 .f32) (c : Fin 18944) :
    k0_pay9 (F := Ideal) w d u s (ix2 0 c) = cn w s d u c := by
  pointwise [k0_pay9, k0_pay6, k0_pay7]
  rfl

theorem y_at (x : FVec Ideal S2x128x3584 .bf16) (w : FVec Ideal S3584x18944 .fp8e4m3) (d : FVec Ideal S3584x32 .bf16) (u : FVec Ideal S32x18944 .bf16) (s m cn : FVec Ideal S1x18944 .f32)
    (x' : FVec Ideal S2x128x3584 .f32) (v : IVec S2x128 1) (f : FVec Ideal S2x128 .f32) (z : EReal) (b : Fin 2) (q : Fin 128) (c : Fin 18944) :
    k0_pay5 (F := Ideal) x w d u s m cn x' v f z (ix3 b q c)
      = ((∑ k : Fin 3584, min (Ideal.ofBits .f32 0x43E00000#32) (max (Ideal.ofBits .f32 0xC3E00000#32) (x' (ix3 b q k) * Ideal.exp2 (0 - k0_pay1 (F := Ideal) v f z (ix2 b q)))) * w (ix2 k c))
          * Ideal.exp2 (k0_pay1 (F := Ideal) v f z (ix2 b q)) * s (ix2 0 c)
        + Ideal.ofBits .f32 0x3F000000#32 * ∑ r : Fin 32, (∑ k : Fin 3584, x (ix3 b q k) * d (ix2 k r)) * u (ix2 r c)) * Ideal.div (m (ix2 0 c)) (cn (ix2 0 c)) := by
  pointwise [k0_pay5, k0_pay3, k0_pay2]
  rfl

theorem y_eq (x : FVec Ideal S2x128x3584 .bf16) (w : FVec Ideal S3584x18944 .fp8e4m3) (d : FVec Ideal S3584x32 .bf16) (u : FVec Ideal S32x18944 .bf16) (s m : FVec Ideal S1x18944 .f32)
    (b : Fin 2) (q : Fin 128) (c : Fin 18944) :
    k0_pay5 (F := Ideal) x (k0_pay6 (F := Ideal) w) d u (k0_pay7 (F := Ideal) s) (k0_pay8 (F := Ideal) m) (k0_pay9 (F := Ideal) w d u s) (k0_pay10 (F := Ideal) x)
      (k0_pay12 (F := Ideal) x) (k0_pay13 (F := Ideal) x) (FloatOps.ofBits .f32 0x00000000#32) (ix3 b q c) = yy x w s d u m b q c := by
  have e6 : k0_pay6 (F := Ideal) w = w := by funext j; pointwise [k0_pay6]
  have e7 : k0_pay7 (F := Ideal) s = s := by funext j; pointwise [k0_pay7]
  have e8 : k0_pay8 (F := Ideal) m = m := by funext j; pointwise [k0_pay8]
  have e10 : k0_pay10 (F := Ideal) x = x := by funext j; pointwise [k0_pay10]
  rw [e6, e7, e8, e10, y_at, e_at, cn_at]
  rfl

theorem xc_eq (x : FVec Ideal S2x128x3584 .bf16) (p : Fin 256) (k : Fin 3584) :
    k0_pay4 (F := Ideal) (k0_pay10 (F := Ideal) x) (k0_pay12 (F := Ideal) x) (k0_pay13 (F := Ideal) x) (FloatOps.ofBits .f32 0x00000000#32) (ix2 p k)
      = code x ⟨p.val / 128, by omega⟩ ⟨p.val % 128, by omega⟩ k := by
  have e10 : k0_pay10 (F := Ideal) x = x := by funext j; pointwise [k0_pay10]
  rw [e10, codes_at, e_at]
  rfl

theorem xs_eq (x : FVec Ideal S2x128x3584 .bf16) (b : Fin 2) (q : Fin 128) :
    k0_pay2 (F := Ideal) (k0_pay12 (F := Ideal) x) (k0_pay13 (F := Ideal) x) (FloatOps.ofBits .f32 0x00000000#32) (ix2 b q) = scl x b q := by
  unfold scl
  rw [← e_at]
  pointwise [k0_pay2]
  rfl

end Cert.ReferenceIdeal.Pure
end
-- ==== Proof.Val.RefArr.lean ====
/- The reference's four result arrays over the extended reals. -/
module

public import proofs.«01_k».proof.Proof.Gen.ReferenceIdeal.Value
public import proofs.«01_k».proof.Proof.Val.RefPay
public import Idealize.ShloMosaic.Lib.Pipeline.ValueKit
public import Idealize.ShloMosaic.Lib.Pointwise

@[expose] public section

set_option maxRecDepth 16384

noncomputable section

namespace Cert.ReferenceIdeal.Pure

open Cert.ReferenceIdeal Cert.ReferenceIdeal.Gen
open Idealize.ShloMosaic Idealize.ShloMosaic.TcCoe Idealize.SL.Sem
open Idealize.ShloMosaic.Pipeline (Dat)
open Cert.Spec Finset

theorem p14 (x0 : Vec Ideal S2x128x3584 .bf16) (x1 x2 x3 x4 x5) : k0_pay14 (F := Ideal) x0 x1 x2 x3 x4 x5 = k0_pay10 x0 := by
  unfold k0_pay14
  simp (disch := decide) only [r0_0, View.ld_unit_lit]
theorem p15 (x0 : Vec Ideal S2x128x3584 .bf16) (x1 x2 x3 x4 x5) : k0_pay15 (F := Ideal) x0 x1 x2 x3 x4 x5 = k0_pay12 x0 := by
  unfold k0_pay15
  simp (disch := decide) only [r0_0, View.ld_unit_lit]
theorem p16 (x0 : Vec Ideal S2x128x3584 .bf16) (x1 x2 x3 x4 x5) : k0_pay16 (F := Ideal) x0 x1 x2 x3 x4 x5 = k0_pay13 x0 := by
  unfold k0_pay16
  simp (disch := decide) only [r0_0, View.ld_unit_lit]

variable (m : (ℓ : Loc nD τ sig) → Buf (Elt Ideal) ℓ)

theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0, 0] ∧ win0_7.index t = ![0, 0] ∧ win0_8.index t = ![0, 0] ∧ win0_9.index t = ![0, 0] :=
  (by decide +kernel : ∀ t : Fin grid0.N, _)

/-- The one point. -/
def tL : Fin cfg0.N := ⟨0, by decide +kernel⟩

/-- The arrays as the region finds them. -/
def aX (c : Dev nD) : AX := V m c main_arg0
def aW (c : Dev nD) : AW := V m c main_v0
def aS (c : Dev nD) : AN := V m c main_v1
def aD (c : Dev nD) : AD := V m c main_arg3
def aU (c : Dev nD) : AU := V m c main_arg4
def aM (c : Dev nD) : AN := V m c main_v2

theorem i0 (c : Dev nD) (t : Fin cfg0.N) : iblk m c 0 t = aX m c := by
  funext j; idx_vars j; unfold aX; blk_ext [iblk, idx t]
theorem i1 (c : Dev nD) (t : Fin cfg0.N) : iblk m c 1 t = aW m c := by
  funext j; idx_vars j; unfold aW; blk_ext [iblk, idx t]
theorem i2 (c : Dev nD) (t : Fin cfg0.N) : iblk m c 2 t = aS m c := by
  funext j; idx_vars j; unfold aS; blk_ext [iblk, idx t]
theorem i3 (c : Dev nD) (t : Fin cfg0.N) : iblk m c 3 t = aD m c := by
  funext j; idx_vars j; unfold aD; blk_ext [iblk, idx t]
theorem i4 (c : Dev nD) (t : Fin cfg0.N) : iblk m c 4 t = aU m c := by
  funext j; idx_vars j; unfold aU; blk_ext [iblk, idx t]
theorem i5 (c : Dev nD) (t : Fin cfg0.N) : iblk m c 5 t = aM m c := by
  funext j; idx_vars j; unfold aM; blk_ext [iblk, idx t]

theorem fin6 (c : Dev nD) : (dats m 0 c).arrAt 6 cfg0.N = fun j : S2x128x18944.Idx => yy (aX m c) (aW m c) (aS m c) (aD m c) (aU m c) (aM m c) (j 0) (j 1) (j 2) := by
  refine (dats m 0 c).arrAt_eq_of_after_last 6 tL (by decide +kernel) _ fun j => ?_
  blk_simp
  rw [after0_6]
  frame_out
  idx_vars j
  rw [p14, p15, p16, i0, i1, i2, i3, i4, i5]
  exact y_eq _ _ _ _ _ _ _ _ _

theorem fin7 (c : Dev nD) : (dats m 0 c).arrAt 7 cfg0.N = fun j : S1x18944.Idx => cn (aW m c) (aS m c) (aD m c) (aU m c) (j 1) := by
  refine (dats m 0 c).arrAt_eq_of_after_last 7 tL (by decide +kernel) _ fun j => ?_
  blk_simp
  rw [after0_7]
  frame_out
  idx_vars j
  have e0 : j0 = 0 := Fin.ext (by omega)
  subst e0
  rw [i1, i2, i3, i4]
  exact cn_at _ _ _ _ _

theorem fin8 (c : Dev nD) : (dats m 0 c).arrAt 8 cfg0.N = fun j : S256x3584.Idx => code (aX m c) ⟨(j 0).val / 128, by have : (j 0).val < 256 := (j 0).isLt; omega⟩ ⟨(j 0).val % 128, by omega⟩ (j 1) := by
  refine (dats m 0 c).arrAt_eq_of_after_last 8 tL (by decide +kernel) _ fun j => ?_
  blk_simp
  rw [after0_8]
  frame_out
  idx_vars j
  rw [p14, p15, p16, i0]
  exact xc_eq _ _ _

theorem fin9 (c : Dev nD) : (dats m 0 c).arrAt 9 cfg0.N = fun j : S2x128.Idx => scl (aX m c) (j 0) (j 1) := by
  refine (dats m 0 c).arrAt_eq_of_after_last 9 tL (by decide +kernel) _ fun j => ?_
  blk_simp
  rw [after0_9]
  frame_out
  idx_vars j
  rw [p15, p16, i0]
  exact xs_eq _ _ _

end Cert.ReferenceIdeal.Pure
end
-- ==== Proof.Val.RefArgs.lean ====
/- The reference's arrays in terms of its arguments. -/
module

public import proofs.«01_k».proof.Proof.Val.RefArr
public import Idealize.ShloMosaic.Lib.Claim

@[expose] public section

set_option maxRecDepth 16384

noncomputable section

namespace Cert.ReferenceIdeal.Pure

open Cert.ReferenceIdeal Cert.ReferenceIdeal.Gen
open Idealize.ShloMosaic Idealize.ShloMosaic.TcCoe Idealize.ShloMosaic.Tactic Idealize.SL.Sem
open Cert.Spec

variable (m : (ℓ : Loc nD τ sig) → Buf (Elt Ideal) ℓ) (ρ : Dev nD → PrngReg) (c : Dev nD)

theorem aX_eq : aX m c = m ((c : Thread nD τ).loc main_arg0) := V_main_arg0 m c
theorem aD_eq : aD m c = m ((c : Thread nD τ).loc main_arg3) := V_main_arg3 m c
theorem aU_eq : aU m c = m ((c : Thread nD τ).loc main_arg4) := V_main_arg4 m c
theorem aW_eq : aW m c = (bitcastToFloat (F := Ideal) .fp8e4m3 (m ((c : Thread nD τ).loc main_arg1) : IVec S3584x18944 8) : FVec Ideal S3584x18944 .fp8e4m3) := by
  unfold aW
  entry_read
  try rfl
theorem aS_eq : aS m c = (shapeCast S1x18944 (m ((c : Thread nD τ).loc main_arg2) : Vec Ideal S18944 .f32) shapeCasts_S18944_S1x18944 : Vec Ideal S1x18944 .f32) := by
  unfold aS
  entry_read
  try rfl
theorem aM_eq : aM m c = (shapeCast S1x18944 (m ((c : Thread nD τ).loc main_arg5) : Vec Ideal S18944 .f32) shapeCasts_S18944_S1x18944 : Vec Ideal S1x18944 .f32) := by
  unfold aM
  entry_read
  try rfl

end Cert.ReferenceIdeal.Pure
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run.Frame
public import proofs.«01_k».proof.Proof.RunK.Frame
public import proofs.«01_k».proof.Proof.Val.Args
public import proofs.«01_k».proof.Proof.Val.RefArgs
public import Idealize.ShloMosaic.Adequacy
public import Idealize.ShloMosaic.Init

@[expose] public section

noncomputable section

namespace Cert.Proof

open Idealize.ShloMosaic Idealize.SL.Sem Cert.Kernel

/-- The kernel and the reference leave the same four arrays. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.facts) := by
  intro m g m' g' hpre hagree
  have H := fun c => @Cert.KernelIdeal.Run.good m c Cert.Pre_tame.facts (hpre c)
  have eX : ∀ c, Cert.ReferenceIdeal.Pure.aX m' c = Cert.KernelIdeal.Run.aX m c := fun c => by
    rw [Cert.ReferenceIdeal.Pure.aX_eq, Cert.KernelIdeal.Run.aX_eq]; exact (hagree c).1
  have eW : ∀ c, Cert.ReferenceIdeal.Pure.aW m' c = Cert.KernelIdeal.Run.aW m c := fun c => by
    rw [Cert.ReferenceIdeal.Pure.aW_eq, Cert.KernelIdeal.Run.aW_eq]
    exact congrArg (fun x : IVec Cert.KernelIdeal.S3584x18944 8 => bitcastToFloat (F := Ideal) .fp8e4m3 x) (hagree c).2.1
  have eS : ∀ c, Cert.ReferenceIdeal.Pure.aS m' c = Cert.KernelIdeal.Run.aS m c := fun c => by
    rw [Cert.ReferenceIdeal.Pure.aS_eq, Cert.KernelIdeal.Run.aS_eq]
    exact congrArg (fun x : Vec Ideal Cert.KernelIdeal.S18944 .f32 => shapeCast Cert.KernelIdeal.S1x18944 x Cert.KernelIdeal.Gen.facts.shapeCasts_S18944_S1x18944) (hagree c).2.2.1
  have eD : ∀ c, Cert.ReferenceIdeal.Pure.aD m' c = Cert.KernelIdeal.Run.aD m c := fun c => by
    rw [Cert.ReferenceIdeal.Pure.aD_eq, Cert.KernelIdeal.Run.aD_eq]; exact (hagree c).2.2.2.1
  have eU : ∀ c, Cert.ReferenceIdeal.Pure.aU m' c = Cert.KernelIdeal.Run.aU m c := fun c => by
    rw [Cert.ReferenceIdeal.Pure.aU_eq, Cert.KernelIdeal.Run.aU_eq]; exact (hagree c).2.2.2.2.1
  have eM : ∀ c, Cert.ReferenceIdeal.Pure.aM m' c = Cert.KernelIdeal.Run.aM m c := fun c => by
    rw [Cert.ReferenceIdeal.Pure.aM_eq, Cert.KernelIdeal.Run.aM_eq]
    exact congrArg (fun x : Vec Ideal Cert.KernelIdeal.S18944 .f32 => shapeCast Cert.KernelIdeal.S1x18944 x Cert.KernelIdeal.Gen.facts.shapeCasts_S18944_S1x18944) (hagree c).2.2.2.2.2
  refine ⟨_, _, _, _, Cert.KernelIdeal.Run.run_blocks m g, ?_⟩
  refine (θ_run Cert.ReferenceIdeal.defs _ _).mono (fun r h c => ?_) (Cert.ReferenceIdeal.Value.run_blocks m' g')
  obtain ⟨h6, h7, h8, h9, hk⟩ := h c
  refine ⟨h6.trans ?_, h7.trans ?_, h8.trans ?_, h9.trans ?_, hk⟩
  · rw [Cert.ReferenceIdeal.Pure.fin6, eX, eW, eS, eD, eU, eM]; exact (Cert.KernelIdeal.Run.fin6 m c (H c)).symm
  · rw [Cert.ReferenceIdeal.Pure.fin7, eW, eS, eD, eU]; exact (Cert.KernelIdeal.Run.fin7 m c (H c)).symm
  · rw [Cert.ReferenceIdeal.Pure.fin8, eX]; exact (Cert.KernelIdeal.Run.fin8 m c (H c)).symm
  · rw [Cert.ReferenceIdeal.Pure.fin9, eX]; exact (Cert.KernelIdeal.Run.fin9 m c (H c)).symm

theorem claim : Cert.Claim := ⟨Cert.Kernel.Gen.facts, Cert.KernelIdeal.Gen.facts, Cert.ReferenceIdeal.Gen.facts, Cert.Pre_tame.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
